-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x64 : Shape := ⟨2, ![32768, 64]⟩
abbrev S32x64 : Shape := ⟨2, ![32, 64]⟩
abbrev S32x64x64 : Shape := ⟨3, ![32, 64, 64]⟩
abbrev S32 : Shape := ⟨1, ![32]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32x64x64 : S_.BroadcastsInDim S32x64x64 (![] : Fin 0 → Fin S32x64x64.rank)
  reducesTo_S32x64x64_S_d0_1_2 : S32x64x64.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S32768x64 .f32) (main_arg1 : FVec F S32x64 .f32) (main_arg2 : FVec F S32x64x64 .f32) (main_arg3 : FVec F S32 .f32) (main_arg4 : IVec S_ 32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64x64 .f32 := Host.absf main_arg2
  let main_cst_2 : FVec F S_ .f32 := constant S_ .f32 0x7F800000#32
  let main_v10 : FVec F S32x64x64 .f32 := broadcastInDim S32x64x64 ![] bcast_S_S32x64x64 main_cst_2
  let main_v11 : IVec S32x64x64 1 := cmpf .olt main_v9 main_v10
  let main_c_3 : IVec S_ 1 := constantI S_ 1 1#1
  let main_v12 : IVec S_ 1 := (fun x v => Host.reduce IntOp.andi x v reducesTo_S32x64x64_S_d0_1_2 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S32768x64 : Shape := ⟨2, ![32768, 64]⟩
abbrev S32x64 : Shape := ⟨2, ![32, 64]⟩
abbrev S32x64x64 : Shape := ⟨3, ![32, 64, 64]⟩
abbrev S32 : Shape := ⟨1, ![32]⟩
abbrev S_ : Shape := ⟨0, ![]⟩
abbrev S1x32 : Shape := ⟨2, ![1, 32]⟩
abbrev S128x2048 : Shape := ⟨2, ![128, 2048]⟩
abbrev S128x32 : Shape := ⟨2, ![128, 32]⟩
abbrev S64x64 : Shape := ⟨2, ![64, 64]⟩
abbrev S1x64x64 : Shape := ⟨3, ![1, 64, 64]⟩
abbrev S64x1x64 : Shape := ⟨3, ![64, 1, 64]⟩
abbrev S64x32x64 : Shape := ⟨3, ![64, 32, 64]⟩
abbrev S64x1x1 : Shape := ⟨3, ![64, 1, 1]⟩
abbrev S1x1x64 : Shape := ⟨3, ![1, 1, 64]⟩
abbrev S1x32x1 : Shape := ⟨3, ![1, 32, 1]⟩
abbrev S1x32x64 : Shape := ⟨3, ![1, 32, 64]⟩
abbrev S64x32 : Shape := ⟨2, ![64, 32]⟩
abbrev S64x32x1 : Shape := ⟨3, ![64, 32, 1]⟩
abbrev S64x2048 : Shape := ⟨2, ![64, 2048]⟩
abbrev S32x32 : Shape := ⟨2, ![32, 32]⟩
abbrev S1x1x32 : Shape := ⟨3, ![1, 1, 32]⟩
abbrev S1 : Shape := ⟨1, ![1]⟩
abbrev S1x1x1 : Shape := ⟨3, ![1, 1, 1]⟩
abbrev S63x32 : Shape := ⟨2, ![63, 32]⟩
abbrev S8x1x4096 : Shape := ⟨3, ![8, 1, 4096]⟩
abbrev S4096x64 : Shape := ⟨2, ![4096, 64]⟩
abbrev S1x1x4096 : Shape := ⟨3, ![1, 1, 4096]⟩
abbrev S4096x128 : Shape := ⟨2, ![4096, 128]⟩
abbrev S64x4096 : Shape := ⟨2, ![64, 4096]⟩
abbrev S2048x4096 : Shape := ⟨2, ![2048, 4096]⟩
abbrev S32x4096 : Shape := ⟨2, ![32, 4096]⟩
abbrev S32x64x4096 : Shape := ⟨3, ![32, 64, 4096]⟩
abbrev S1x64x4096 : Shape := ⟨3, ![1, 64, 4096]⟩
abbrev S4096 : Shape := ⟨1, ![4096]⟩
abbrev S1x4096 : Shape := ⟨2, ![1, 4096]⟩
abbrev S8x1x1 : Shape := ⟨3, ![8, 1, 1]⟩
abbrev S8 : Shape := ⟨1, ![8]⟩

abbrev nBuf : Space → Nat
  | .hbm => 25
  | .vmem => 13
  | .smem => 0
  | _ => 0

abbrev bufTy : (tb : Table) → Fin (tcTables nBuf tb) → BufTy
  | .hbm, ⟨0, _⟩ => ⟨S32768x64, .f32⟩
  | .hbm, ⟨1, _⟩ => ⟨S32x64, .f32⟩
  | .hbm, ⟨2, _⟩ => ⟨S32x64x64, .f32⟩
  | .hbm, ⟨3, _⟩ => ⟨S32, .f32⟩
  | .hbm, ⟨4, _⟩ => ⟨S_, .i32⟩
  | .hbm, ⟨5, _⟩ => ⟨S1x32, .f32⟩
  | .hbm, ⟨6, _⟩ => ⟨S128x2048, .f32⟩
  | .hbm, ⟨7, _⟩ => ⟨S128x32, .f32⟩
  | .hbm, ⟨8, _⟩ => ⟨S8x1x4096, .f32⟩
  | .hbm, ⟨9, _⟩ => ⟨S8x1x4096, .f32⟩
  | .hbm, ⟨10, _⟩ => ⟨S8x1x1, .f32⟩
  | .hbm, ⟨11, _⟩ => ⟨S8, .f32⟩
  | .hbm, ⟨12, _⟩ => ⟨S8x1x1, .f32⟩
  | .hbm, ⟨13, _⟩ => ⟨S8, .f32⟩
  | .hbm, ⟨14, _⟩ => ⟨S_, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S32x64x64, .f32⟩
  | .local _ .vmem, ⟨1, _⟩ => ⟨S32x64, .f32⟩
  | .local _ .vmem, ⟨2, _⟩ => ⟨S1x32, .f32⟩
  | .local _ .vmem, ⟨3, _⟩ => ⟨S128x2048, .f32⟩
  | .local _ .vmem, ⟨4, _⟩ => ⟨S128x32, .f32⟩
  | .local _ .vmem, ⟨5, _⟩ => ⟨S4096x64, .f32⟩
  | .local _ .vmem, ⟨6, _⟩ => ⟨S4096x64, .f32⟩
  | .local _ .vmem, ⟨7, _⟩ => ⟨S128x2048, .f32⟩
  | .local _ .vmem, ⟨8, _⟩ => ⟨S128x32, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v234 : BitVec 32 := Scalar.addi c0_i32 c64_i32
  let c1_i32 : BitVec 32 := 1#32
  ⟨c0_i32, v234, c1_i32⟩
abbrev stage0_0 : Fin 1 → Memref sig .tc .vmem S32x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![8, 1], ![false, false]⟩

def k1_cond1 (i : grid1.Coords) : BitVec 1 :=
  let arg1 : BitVec 32 := BitVec.ofNat 32 (i 1).val
  let c0_i32_12 : BitVec 32 := 0#32
  let v33 : BitVec 1 := Scalar.cmpi .eq arg1 c0_i32_12
  let v34 : BitVec 32 := Scalar.extui v33
  let c0_i32_13 : BitVec 32 := 0#32
  let v35 : BitVec 1 := Scalar.cmpi .ne v34 c0_i32_13
  v35

def k1_cond2 (i : grid1.Coords) : BitVec 1 :=
  let arg1 : BitVec 32 := BitVec.ofNat 32 (i 1).val
  let c0_i32_14 : BitVec 32 := 0#32
  let v36 : BitVec 1 := Scalar.cmpi .sgt arg1 c0_i32_14
  let v37 : BitVec 32 := Scalar.extui v36
  let c0_i32_15 : BitVec 32 := 0#32
  let v38 : BitVec 1 := Scalar.cmpi .ne v37 c0_i32_15
  v38

def k1_cond3 (i : grid1.Coords) : BitVec 1 :=
  let arg1 : BitVec 32 := BitVec.ofNat 32 (i 1).val
  let c0_i32_16 : BitVec 32 := 0#32
  let v39 : BitVec 1 := Scalar.cmpi .eq arg1 c0_i32_16
  let v40 : BitVec 32 := Scalar.extui v39
  let c0_i32_17 : BitVec 32 := 0#32
  let v41 : BitVec 1 := Scalar.cmpi .ne v40 c0_i32_17
  v41

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S32768x64 : Shape := ⟨2, ![32768, 64]⟩
abbrev S32x64 : Shape := ⟨2, ![32, 64]⟩
abbrev S32x64x64 : Shape := ⟨3, ![32, 64, 64]⟩
abbrev S32 : Shape := ⟨1, ![32]⟩
abbrev S_ : Shape := ⟨0, ![]⟩
abbrev S64x64 : Shape := ⟨2, ![64, 64]⟩
abbrev S1x64x64 : Shape := ⟨3, ![1, 64, 64]⟩
abbrev S32x1x64 : Shape := ⟨3, ![32, 1, 64]⟩
abbrev S32x1x1 : Shape := ⟨3, ![32, 1, 1]⟩
abbrev S32x64x1 : Shape := ⟨3, ![32, 64, 1]⟩
abbrev S1x64x1 : Shape := ⟨3, ![1, 64, 1]⟩
abbrev S32768x1x64 : Shape := ⟨3, ![32768, 1, 64]⟩
abbrev S1x32x64 : Shape := ⟨3, ![1, 32, 64]⟩
abbrev S32768x32x64 : Shape := ⟨3, ![32768, 32, 64]⟩
abbrev S32x64x32768 : Shape := ⟨3, ![32, 64, 32768]⟩
abbrev S32768x32 : Shape := ⟨2, ![32768, 32]⟩
abbrev S1 : Shape := ⟨1, ![1]⟩
abbrev S1x32 : Shape := ⟨2, ![1, 32]⟩
abbrev S32768 : Shape := ⟨1, ![32768]⟩
abbrev S32768x1 : Shape := ⟨2, ![32768, 1]⟩

abbrev nBuf : Space → Nat
  | .hbm => 168
  | .vmem => 0
  | .smem => 0
  | _ => 0

abbrev hbmTy0_0 (i : Nat) : BufTy := match i % 128 with
  | 0 => ⟨S32768x64, .f32⟩
  | 1 => ⟨S32x64, .f32⟩
  | 2 => ⟨S32x64x64, .f32⟩
  | 3 => ⟨S32, .f32⟩
  | 4 => ⟨S_, .i32⟩
  | 5 => ⟨S64x64, .i32⟩
  | 6 => ⟨S_, .i32⟩
  | 7 => ⟨S64x64, .i32⟩
  | 8 => ⟨S64x64, .i32⟩
  | 9 => ⟨S64x64, .i32⟩
  | 10 => ⟨S64x64, .i1⟩
  | 11 => ⟨S32x64x64, .i1⟩
  | 12 => ⟨S_, .f32⟩
  | 13 => ⟨S32x64x64, .f32⟩
  | 14 => ⟨S32x64x64, .f32⟩
  | 15 => ⟨S32x64x64, .f32⟩
  | 16 => ⟨S32x64x64, .f32⟩
  | 17 => ⟨S64x64, .i32⟩
  | 18 => ⟨S64x64, .i32⟩
  | 19 => ⟨S_, .i32⟩
  | 20 => ⟨S64x64, .i32⟩
  | 21 => ⟨S64x64, .i32⟩
  | 22 => ⟨S64x64, .i1⟩
  | 23 => ⟨S64x64, .f32⟩
  | 24 => ⟨S1x64x64, .f32⟩
  | 25 => ⟨S32x64x64, .f32⟩
  | 26 => ⟨S32x64x64, .f32⟩
  | 27 => ⟨S64x64, .i32⟩
  | 28 => ⟨S64x64, .i32⟩
  | 29 => ⟨S_, .i32⟩
  | 30 => ⟨S64x64, .i32⟩
  | 31 => ⟨S64x64, .i32⟩
  | 32 => ⟨S64x64, .i1⟩
  | 33 => ⟨S64x64, .f32⟩
  | 34 => ⟨S32x64x64, .f32⟩
  | 35 => ⟨S_, .f32⟩
  | 36 => ⟨S32, .f32⟩
  | 37 => ⟨S_, .i32⟩
  | 38 => ⟨S_, .i32⟩
  | 39 => ⟨S_, .i32⟩
  | 40 => ⟨S_, .i32⟩
  | 41 => ⟨S32x64x64, .f32⟩
  | 42 => ⟨S32x64x64, .f32⟩
  | 43 => ⟨S32, .f32⟩
  | 44 => ⟨S_, .i32⟩
  | 45 => ⟨S_, .i1⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S32x1x64, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S32x1x64, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S32x1x1, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S32x64x1, .f32⟩
  | 84 => ⟨S32x1x64, .f32⟩
  | 85 => ⟨S32x1x64, .f32⟩
  | 86 => ⟨S32x1x64, .f32⟩
  | 87 => ⟨S32x1x64, .f32⟩
  | 88 => ⟨S1x64x1, .i32⟩
  | 89 => ⟨S_, .i32⟩
  | 90 => ⟨S1x64x1, .i32⟩
  | 91 => ⟨S1x64x1, .i1⟩
  | 92 => ⟨S32x64x64, .f32⟩
  | 93 => ⟨S32x64x64, .f32⟩
  | 94 => ⟨S32x64x64, .f32⟩
  | 95 => ⟨S32x64x64, .f32⟩
  | 96 => ⟨S32x64x64, .i1⟩
  | 97 => ⟨S32x64x64, .f32⟩
  | 98 => ⟨S32x64x64, .f32⟩
  | 99 => ⟨S32x64x64, .f32⟩
  | 100 => ⟨S32x64x64, .f32⟩
  | 101 => ⟨S32x64x64, .f32⟩
  | 102 => ⟨S32x64x64, .f32⟩
  | 103 => ⟨S32x64x64, .i1⟩
  | 104 => ⟨S32x64x64, .f32⟩
  | 105 => ⟨S32x64x64, .f32⟩
  | 106 => ⟨S32, .f32⟩
  | 107 => ⟨S32, .f32⟩
  | 108 => ⟨S32, .f32⟩
  | 109 => ⟨S32, .f32⟩
  | 110 => ⟨S_, .i32⟩
  | 111 => ⟨S_, .i32⟩
  | 112 => ⟨S32768x1x64, .f32⟩
  | 113 => ⟨S1x32x64, .f32⟩
  | 114 => ⟨S32768x32x64, .f32⟩
  | 115 => ⟨S32768x32x64, .f32⟩
  | 116 => ⟨S32768x32x64, .f32⟩
  | 117 => ⟨S32x64x32768, .f32⟩
  | 118 => ⟨S32768x32, .f32⟩
  | 119 => ⟨S_, .f32⟩
  | 120 => ⟨S_, .f32⟩
  | 121 => ⟨S_, .f32⟩
  | 122 => ⟨S_, .f32⟩
  | 123 => ⟨S1, .f32⟩
  | 124 => ⟨S32, .f32⟩
  | 125 => ⟨S32, .f32⟩
  | 126 => ⟨S32, .f32⟩
  | 127 => ⟨S_, .f32⟩
  | _ => ⟨S32768x64, .f32⟩

abbrev hbmTy0_1 (i : Nat) : BufTy := match i % 128 with
  | 0 => ⟨S_, .f32⟩
  | 1 => ⟨S1, .f32⟩
  | 2 => ⟨S1, .f32⟩
  | 3 => ⟨S32, .f32⟩
  | 4 => ⟨S32, .f32⟩
  | 5 => ⟨S1x32, .f32⟩
  | 6 => ⟨S_, .f32⟩
  | 7 => ⟨S1x32, .f32⟩
  | 8 => ⟨S1x32, .f32⟩
  | 9 => ⟨S32768x32, .f32⟩
  | 10 => ⟨S32768x32, .f32⟩
  | 11 => ⟨S_, .f32⟩
  | 12 => ⟨S32768x32, .f32⟩
  | 13 => ⟨S32768x32, .f32⟩
  | 14 => ⟨S1x32, .f32⟩
  | 15 => ⟨S32768x32, .f32⟩
  | 16 => ⟨S32768x32, .f32⟩
  | 17 => ⟨S_, .f32⟩
  | 18 => ⟨S32768, .f32⟩
  | 19 => ⟨S32768x1, .f32⟩
  | 20 => ⟨S32768, .f32⟩
  | 21 => ⟨S32768x32, .f32⟩
  | 22 => ⟨S32768x32, .f32⟩
  | 23 => ⟨S32768x32, .f32⟩
  | 24 => ⟨S_, .f32⟩
  | 25 => ⟨S32768, .f32⟩
  | 26 => ⟨S32768, .f32⟩
  | 27 => ⟨S32768, .f32⟩
  | 28 => ⟨S_, .f32⟩
  | 29 => ⟨S_, .f32⟩
  | 30 => ⟨S1, .f32⟩
  | 31 => ⟨S_, .f32⟩
  | 32 => ⟨S32768, .f32⟩
  | 33 => ⟨S32768, .f32⟩
  | 34 => ⟨S32768, .f32⟩
  | 35 => ⟨S_, .f32⟩
  | 36 => ⟨S_, .f32⟩
  | 37 => ⟨S_, .f32⟩
  | 38 => ⟨S_, .f32⟩
  | 39 => ⟨S_, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_c_1 : Ref sig .tc := ⟨.hbm, 37, rfl⟩
abbrev main_c_2 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev main_v20_4 : Ref sig .tc := ⟨.hbm, 43, rfl⟩
abbrev main_while0c_c_13 : Ref sig .tc := ⟨.hbm, 44, rfl⟩
abbrev main_while0c_v58 : Ref sig .tc := ⟨.hbm, 45, rfl⟩
abbrev main_while0b_c_13 : Ref sig .tc := ⟨.hbm, 46, rfl⟩
abbrev main_while0b_v58 : Ref sig .tc := ⟨.hbm, 47, rfl⟩
abbrev main_while0b_c_14 : Ref sig .tc := ⟨.hbm, 48, rfl⟩
abbrev main_while0b_v59 : Ref sig .tc := ⟨.hbm, 49, rfl⟩
abbrev main_while0b_v60 : Ref sig .tc := ⟨.hbm, 50, rfl⟩
abbrev main_while0b_c_15 : Ref sig .tc := ⟨.hbm, 51, rfl⟩
abbrev main_while0b_v61 : Ref sig .tc := ⟨.hbm, 52, rfl⟩
abbrev main_while0b_v62 : Ref sig .tc := ⟨.hbm, 53, rfl⟩
abbrev main_while0b_c_16 : Ref sig .tc := ⟨.hbm, 54, rfl⟩
abbrev main_while0b_c_17 : Ref sig .tc := ⟨.hbm, 55, rfl⟩
abbrev main_while0b_v63 : Ref sig .tc := ⟨.hbm, 56, rfl⟩
abbrev main_while0b_c_18 : Ref sig .tc := ⟨.hbm, 57, rfl⟩
abbrev main_while0b_v64 : Ref sig .tc := ⟨.hbm, 58, rfl⟩
abbrev main_while0b_v65 : Ref sig .tc := ⟨.hbm, 59, rfl⟩
abbrev main_while0b_c_19 : Ref sig .tc := ⟨.hbm, 60, rfl⟩
abbrev main_while0b_v66 : Ref sig .tc := ⟨.hbm, 61, rfl⟩
abbrev main_while0b_v67 : Ref sig .tc := ⟨.hbm, 62, rfl⟩
abbrev main_while0b_c_20 : Ref sig .tc := ⟨.hbm, 63, rfl⟩
abbrev main_while0b_c_21 : Ref sig .tc := ⟨.hbm, 64, rfl⟩
abbrev main_while0b_v68 : Ref sig .tc := ⟨.hbm, 65, rfl⟩
abbrev main_while0b_c_22 : Ref sig .tc := ⟨.hbm, 66, rfl⟩
abbrev main_while0b_v69 : Ref sig .tc := ⟨.hbm, 67, rfl⟩
abbrev main_while0b_v70 : Ref sig .tc := ⟨.hbm, 68, rfl⟩
abbrev main_while0b_c_23 : Ref sig .tc := ⟨.hbm, 69, rfl⟩
abbrev main_while0b_v71 : Ref sig .tc := ⟨.hbm, 70, rfl⟩
abbrev main_while0b_v72 : Ref sig .tc := ⟨.hbm, 71, rfl⟩
abbrev main_while0b_c_24 : Ref sig .tc := ⟨.hbm, 72, rfl⟩
abbrev main_while0b_c_25 : Ref sig .tc := ⟨.hbm, 73, rfl⟩
abbrev main_while0b_v73 : Ref sig .tc := ⟨.hbm, 74, rfl⟩
abbrev main_while0b_c_26 : Ref sig .tc := ⟨.hbm, 75, rfl⟩
abbrev main_while0b_v74 : Ref sig .tc := ⟨.hbm, 76, rfl⟩
abbrev main_while0b_v75 : Ref sig .tc := ⟨.hbm, 77, rfl⟩
abbrev main_while0b_c_27 : Ref sig .tc := ⟨.hbm, 78, rfl⟩
abbrev main_while0b_v76 : Ref sig .tc := ⟨.hbm, 79, rfl⟩
abbrev main_while0b_v77 : Ref sig .tc := ⟨.hbm, 80, rfl⟩
abbrev main_while0b_c_28 : Ref sig .tc := ⟨.hbm, 81, rfl⟩
abbrev main_while0b_c_29 : Ref sig .tc := ⟨.hbm, 82, rfl⟩
abbrev main_while0b_v78 : Ref sig .tc := ⟨.hbm, 83, rfl⟩
abbrev main_while0b_v79 : Ref sig .tc := ⟨.hbm, 84, rfl⟩
abbrev main_while0b_v80 : Ref sig .tc := ⟨.hbm, 85, rfl⟩
abbrev main_while0b_v81 : Ref sig .tc := ⟨.hbm, 86, rfl⟩
abbrev main_while0b_v82 : Ref sig .tc := ⟨.hbm, 87, rfl⟩
abbrev main_while0b_v83 : Ref sig .tc := ⟨.hbm, 88, rfl⟩
abbrev main_while0b_v84 : Ref sig .tc := ⟨.hbm, 89, rfl⟩
abbrev main_while0b_v85 : Ref sig .tc := ⟨.hbm, 90, rfl⟩
abbrev main_while0b_v86 : Ref sig .tc := ⟨.hbm, 91, rfl⟩
abbrev main_while0b_v87 : Ref sig .tc := ⟨.hbm, 92, rfl⟩
abbrev main_while0b_v88 : Ref sig .tc := ⟨.hbm, 93, rfl⟩
abbrev main_while0b_v89 : Ref sig .tc := ⟨.hbm, 94, rfl⟩
abbrev main_while0b_v90 : Ref sig .tc := ⟨.hbm, 95, rfl⟩
abbrev main_while0b_call1_v0 : Ref sig .tc := ⟨.hbm, 96, rfl⟩
abbrev main_while0b_call1_v1 : Ref sig .tc := ⟨.hbm, 97, rfl⟩
abbrev main_while0b_v91 : Ref sig .tc := ⟨.hbm, 98, rfl⟩
abbrev main_while0b_v92 : Ref sig .tc := ⟨.hbm, 99, rfl⟩
abbrev main_while0b_v93 : Ref sig .tc := ⟨.hbm, 100, rfl⟩
abbrev main_while0b_v94 : Ref sig .tc := ⟨.hbm, 101, rfl⟩
abbrev main_while0b_v95 : Ref sig .tc := ⟨.hbm, 102, rfl⟩
abbrev main_while0b_call2_v0 : Ref sig .tc := ⟨.hbm, 103, rfl⟩
abbrev main_while0b_call2_v1 : Ref sig .tc := ⟨.hbm, 104, rfl⟩
abbrev main_while0b_v96 : Ref sig .tc := ⟨.hbm, 105, rfl⟩
abbrev main_while0b_v97 : Ref sig .tc := ⟨.hbm, 106, rfl⟩
abbrev main_while0b_v98 : Ref sig .tc := ⟨.hbm, 107, rfl⟩
abbrev main_while0b_v99 : Ref sig .tc := ⟨.hbm, 108, rfl⟩
abbrev main_while0b_v100 : Ref sig .tc := ⟨.hbm, 109, rfl⟩
abbrev main_while0b_c_30 : Ref sig .tc := ⟨.hbm, 110, rfl⟩
abbrev main_while0b_v101 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_call3_cst : Ref sig .tc := ⟨.hbm, 119, rfl⟩
abbrev main_call3_v0 : Ref sig .tc := ⟨.hbm, 120, rfl⟩
abbrev main_call3_cst_0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_cst_1 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_v28 : Ref sig .tc := ⟨.hbm, 132, rfl⟩
abbrev main_v29 : Ref sig .tc := ⟨.hbm, 133, rfl⟩
abbrev main_cst_3 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_cst_4 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_cst_5 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_cst_6 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_cst_7 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_cst_8 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩

abbrev nD : Nat := 1
abbrev τ : Topo := Topo.v7x

variable {F : FTy → Type} [FloatOps F]

abbrev main_while0_count : Scf.Loop 32 := ⟨0#32, 64#32, 1#32⟩
-- ==== Proof.KernelIdeal.Loop.lean ====
/- The 64 elimination trips of the preparation kernel as a pure function of the carried matrix stack and
   log-determinant row: the loop's region issues no memory operation, so one trip is a function. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Exec

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One elimination trip: the carried stack of matrices and the carried row of log-determinants, updated. -/
def sweepStep (v231 : IVec S64x1x1 32) (v232 : IVec S1x1x64 32) (k : Fin k0_t1_loop.trips)
    (acc : FVec F S64x32x64 .f32 × FVec F S1x32x1 .f32) : FVec F S64x32x64 .f32 × FVec F S1x32x1 .f32 :=
  (k0_pay5 v231 v232 0#32 1#32 k acc.1, k0_pay6 v231 v232 0#32 1#32 k acc.1 acc.2)

/-- The loop's region as a program that returns `sweepStep` at once. -/
abbrev sweepRegion (v231 : IVec S64x1x1 32) (v232 : IVec S1x1x64 32) :
    Fin k0_t1_loop.trips → FVec F S64x32x64 .f32 × FVec F S1x32x1 .f32 → Prog (TpuEff nD τ sig (Elt F) Λ₀ .tc) (FVec F S64x32x64 .f32 × FVec F S1x32x1 .f32) :=
  fun k acc => pure (sweepStep v231 v232 k acc)

/-- The region of the loop returns `sweepStep` of what it carries. -/
theorem k0_t1_body_eq (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole) (arg3 : Memref sig .tc .vmem S128x2048 .f32) (harg3 : arg3.IsWhole) (arg4 : Memref sig .tc .vmem S128x32 .f32) (harg4 : arg4.IsWhole) (v23 : FVec F S64x64 .f32) (v29 : FVec F S64x64 .f32) (v35 : FVec F S64x64 .f32) (v41 : FVec F S64x64 .f32) (v47 : FVec F S64x64 .f32) (v53 : FVec F S64x64 .f32) (v59 : FVec F S64x64 .f32) (v65 : FVec F S64x64 .f32) (v71 : FVec F S64x64 .f32) (v77 : FVec F S64x64 .f32) (v83 : FVec F S64x64 .f32) (v89 : FVec F S64x64 .f32) (v95 : FVec F S64x64 .f32) (v101 : FVec F S64x64 .f32) (v107 : FVec F S64x64 .f32) (v113 : FVec F S64x64 .f32) (v119 : FVec F S64x64 .f32) (v125 : FVec F S64x64 .f32) (v131 : FVec F S64x64 .f32) (v137 : FVec F S64x64 .f32) (v143 : FVec F S64x64 .f32) (v149 : FVec F S64x64 .f32) (v155 : FVec F S64x64 .f32) (v161 : FVec F S64x64 .f32) (v167 : FVec F S64x64 .f32) (v173 : FVec F S64x64 .f32) (v179 : FVec F S64x64 .f32) (v185 : FVec F S64x64 .f32) (v191 : FVec F S64x64 .f32) (v197 : FVec F S64x64 .f32) (v198 : FVec F S64x1x64 .f32) (v199 : FVec F S64x1x64 .f32) (v231 : IVec S64x1x1 32) (v232 : IVec S1x1x64 32) :
    k0_t1_body (F := F) arg0 harg0 arg1 harg1 arg2 harg2 arg3 harg3 arg4 harg4 v23 v29 v35 v41 v47 v53 v59 v65 v71 v77 v83 v89 v95 v101 v107 v113 v119 v125 v131 v137 v143 v149 v155 v161 v167 v173 v179 v185 v191 v197 v198 v199 v231 v232 = sweepRegion v231 v232 := by
  funext k acc
  rfl

/-- The part of the body that holds the loop, over the pure region. -/
def k0_part8_pure (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole) (arg3 : Memref sig .tc .vmem S128x2048 .f32) (harg3 : arg3.IsWhole) (arg4 : Memref sig .tc .vmem S128x32 .f32) (harg4 : arg4.IsWhole) (v23 : FVec F S64x64 .f32) (v29 : FVec F S64x64 .f32) (v35 : FVec F S64x64 .f32) (v41 : FVec F S64x64 .f32) (v47 : FVec F S64x64 .f32) (v53 : FVec F S64x64 .f32) (v59 : FVec F S64x64 .f32) (v65 : FVec F S64x64 .f32) (v71 : FVec F S64x64 .f32) (v77 : FVec F S64x64 .f32) (v83 : FVec F S64x64 .f32) (v89 : FVec F S64x64 .f32) (v95 : FVec F S64x64 .f32) (v101 : FVec F S64x64 .f32) (v107 : FVec F S64x64 .f32) (v113 : FVec F S64x64 .f32) (v119 : FVec F S64x64 .f32) (v125 : FVec F S64x64 .f32) (v131 : FVec F S64x64 .f32) (v137 : FVec F S64x64 .f32) (v143 : FVec F S64x64 .f32) (v149 : FVec F S64x64 .f32) (v155 : FVec F S64x64 .f32) (v161 : FVec F S64x64 .f32) (v167 : FVec F S64x64 .f32) (v173 : FVec F S64x64 .f32) (v179 : FVec F S64x64 .f32) (v185 : FVec F S64x64 .f32) (v191 : FVec F S64x64 .f32) (v197 : FVec F S64x64 .f32) (v198 : FVec F S64x1x64 .f32) (v199 : FVec F S64x1x64 .f32) :
    Prog (TpuEff nD τ sig (Elt F) Λ₀ .tc) (Σ' (v236 : FVec F S64x2048 .f32) (v237 : FVec F S1x32 .f32) (v242 : FVec F S64x32 .f32) (v244 : FVec F S32x32 .f32) (v247 : IVec S32x32 1), F .f32) := do
  have v231 : IVec S64x1x1 32 := iota .tc S64x1x1 32 [0] iota_S64x1x1_d0_w32
  have v232 : IVec S1x1x64 32 := iota .tc S1x1x64 32 [2] iota_S1x1x64_d2_w32

  let (v235_0, v235_1) ← Scf.Loop.for k0_t1_loop k0_t1_ok (k0_pay46 v23 v29 v35 v41 v47 v53 v59 v65 v71 v77 v83 v89 v95 v101 v107 v113 v119 v125 v131 v137 v143 v149 v155 v161 v167 v173 v179 v185 v191 v197 v198 v199, k0_pay47 (F := F)) (sweepRegion v231 v232)
  let v238 : Vec F S32x64 .f32 ← Prog.lift (.load arg1 (Rect.unit (s := S32x64) ![0, 0] S32x64.size inb_S32x64_S32x64_0_0).toLoadRect (View.loadsAt_vmem h_S32x64))

  let v243 : Vec F S32x64 .f32 ← Prog.lift (.load arg1 (Rect.unit (s := S32x64) ![0, 0] S32x64.size inb_S32x64_S32x64_0_0).toLoadRect (View.loadsAt_vmem h_S32x64))
  have cst_135 : F .f32 := Scalar.ofBits .f32 0x00000000#32
  pure ⟨k0_pay48 v235_0, k0_pay49 v235_1, k0_pay50 v235_0 v238, k0_pay51 v235_0 v238 v243, k0_pay52, cst_135⟩

/-- That part is its restatement over the pure region. -/
theorem k0_part8_eq_pure : k0_part8 (F := F) = k0_part8_pure (F := F) := by
  rw [k0_part8_eq_skeleton]
  unfold k0_part8_skel k0_part8_pure
  simp only [k0_t1_body_eq]

end Cert.KernelIdeal.Exec

end
-- ==== Proof.KernelIdeal.Prep.lean ====
/- The preparation kernel: what its body leaves in its two output buffers, and its obligation to the pipeline. -/
module

public import proofs.«01_k».proof.Proof.KernelIdeal.Loop

@[expose] public section

set_option maxRecDepth 16384

noncomputable section

namespace Cert.KernelIdeal.Exec

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter here, the fold through @main in the run
variable (V : (c : Dev nD) → (b : Ref sig .tc) → Buf (Elt F) ((c : Thread nD τ).loc b))

/-! # REGION 0 of @main: custom_call 0, `cc0__prep_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S128x2048 .f32 := (Memref.whole cc0_stg3_0 : Memref sig .tc .vmem S128x2048 .f32).view
/-- One staging buffer of output window 4, through which its contents are stated (`View.read_writes_of_cover`: the
    choice does not matter). -/
abbrev VO0_4 : View sig .tc .vmem S128x32 .f32 := (Memref.whole cc0_stg4_0 : Memref sig .tc .vmem S128x32 .f32).view
/-- Each window's current staging memref at point `t`, spelled as the pipeline passes it (`bodyAt0`), and its wholeness. -/
abbrev ms0_0 (t : Fin cfg0.N) : Memref sig .tc .vmem S32x64x64 .f32 := win0_0.stage (cfg0.slots t 0)
/-- The staging buffer of the triangles is a whole one. -/
abbrev hs0_0 (t : Fin cfg0.N) : (ms0_0 t).IsWhole := hstage0_0 0
/-- The staging buffer of the means at a step. -/
abbrev ms0_1 (t : Fin cfg0.N) : Memref sig .tc .vmem S32x64 .f32 := win0_1.stage (cfg0.slots t 1)
/-- The staging buffer of the means is a whole one. -/
abbrev hs0_1 (t : Fin cfg0.N) : (ms0_1 t).IsWhole := hstage0_1 0
/-- The staging buffer of the scores at a step. -/
abbrev ms0_2 (t : Fin cfg0.N) : Memref sig .tc .vmem S1x32 .f32 := win0_2.stage (cfg0.slots t 2)
/-- The staging buffer of the scores is a whole one. -/
abbrev hs0_2 (t : Fin cfg0.N) : (ms0_2 t).IsWhole := hstage0_2 0
/-- The staging buffer of the quadratic coefficients at a step. -/
abbrev ms0_3 (t : Fin cfg0.N) : Memref sig .tc .vmem S128x2048 .f32 := win0_3.stage (cfg0.slots t 3)
/-- The staging buffer of the quadratic coefficients is a whole one. -/
abbrev hs0_3 (t : Fin cfg0.N) : (ms0_3 t).IsWhole := hstage0_3 0
/-- The staging buffer of the offsets and linear coefficients at a step. -/
abbrev ms0_4 (t : Fin cfg0.N) : Memref sig .tc .vmem S128x32 .f32 := win0_4.stage (cfg0.slots t 4)
/-- The staging buffer of the offsets and linear coefficients is a whole one. -/
abbrev hs0_4 (t : Fin cfg0.N) : (ms0_4 t).IsWhole := hstage0_4 0

set_option maxHeartbeats 1000000 in
/-- What the body's stores leave in each output's staging memref, as pieces (last first), WITH the
    proof that on whole staging memrefs — the inputs' at their contents, the other outputs' at
    anything, the body runs to the continuation holding the inputs' as they were,
    each output's buffer with its pieces written: the functions are replaced by their skeletons, which are then executed; the pieces are
    the witness that run finds . -/
noncomputable def kernelRun0_A (c : Dev nD) (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole) (arg3 : Memref sig .tc .vmem S128x2048 .f32) (harg3 : arg3.IsWhole) (arg4 : Memref sig .tc .vmem S128x32 .f32) (harg4 : arg4.IsWhole)
    (x0 : Vec F S32x64x64 .f32) (x1 : Vec F S32x64 .f32) (x2 : Vec F S1x32 .f32) :
    Σ' (L3 : List (View.Piece (Elt F) S128x2048 .f32)), { L4 : List (View.Piece (Elt F) S128x32 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4)) -∗ K ⟨⟩))
          ⊢ wp frame (wpE (defs₀ (F := F)) Variants.none c none) E (cc0__prep_body arg0 harg0 arg1 harg1 arg2 harg2 arg3 harg3 arg4 harg4) K } := by
  refine ⟨?_, ?_, fun E K => ?run⟩
  case run =>
    simp only [cc0__prep_body_eq_skeleton]; unfold cc0__prep_body_skel
    simp only [k0_part9_eq_skeleton]; unfold k0_part9_skel
    simp only [k0_part8_eq_pure, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact H4

/-- The run's pieces for output 3 tile its block (1 store of `S128x2048`), so they cover it. -/
theorem cover0_A_3 (c : Dev nD) (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole) (arg3 : Memref sig .tc .vmem S128x2048 .f32) (harg3 : arg3.IsWhole) (arg4 : Memref sig .tc .vmem S128x32 .f32) (harg4 : arg4.IsWhole)
    (x0 : Vec F S32x64x64 .f32) (x1 : Vec F S32x64 .f32) (x2 : Vec F S1x32 .f32) (y : S128x2048.Idx) :
    ∃ pc ∈ (kernelRun0_A c arg0 harg0 arg1 harg1 arg2 harg2 arg3 harg3 arg4 harg4 x0 x1 x2).1, y ∈ pc.1.set :=
  View.cover_of_tiledL (kernelRun0_A c arg0 harg0 arg1 harg1 arg2 harg2 arg3 harg3 arg4 harg4 x0 x1 x2).1 S128x2048.size (by sl_kernel_rfl) y

/-- What the run leaves in output 3's staging buffer: its pieces read back over junk. -/
def out0_A_3 (c : Dev nD) (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole) (arg3 : Memref sig .tc .vmem S128x2048 .f32) (harg3 : arg3.IsWhole) (arg4 : Memref sig .tc .vmem S128x32 .f32) (harg4 : arg4.IsWhole)
    (x0 : Vec F S32x64x64 .f32) (x1 : Vec F S32x64 .f32) (x2 : Vec F S1x32 .f32) : Vec F S128x2048 .f32 :=
  VO0_3.read (Elt F) (VO0_3.writes (Elt F) VO0_3.junk (kernelRun0_A c arg0 harg0 arg1 harg1 arg2 harg2 arg3 harg3 arg4 harg4 x0 x1 x2).1)

/-- The run's pieces for output 4 tile its block (1 store of `S128x32`), so they cover it. -/
theorem cover0_A_4 (c : Dev nD) (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole) (arg3 : Memref sig .tc .vmem S128x2048 .f32) (harg3 : arg3.IsWhole) (arg4 : Memref sig .tc .vmem S128x32 .f32) (harg4 : arg4.IsWhole)
    (x0 : Vec F S32x64x64 .f32) (x1 : Vec F S32x64 .f32) (x2 : Vec F S1x32 .f32) (y : S128x32.Idx) :
    ∃ pc ∈ (kernelRun0_A c arg0 harg0 arg1 harg1 arg2 harg2 arg3 harg3 arg4 harg4 x0 x1 x2).2.1, y ∈ pc.1.set :=
  View.cover_of_tiledL (kernelRun0_A c arg0 harg0 arg1 harg1 arg2 harg2 arg3 harg3 arg4 harg4 x0 x1 x2).2.1 S128x32.size (by sl_kernel_rfl) y

/-- What the run leaves in output 4's staging buffer: its pieces read back over junk. -/
def out0_A_4 (c : Dev nD) (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole) (arg3 : Memref sig .tc .vmem S128x2048 .f32) (harg3 : arg3.IsWhole) (arg4 : Memref sig .tc .vmem S128x32 .f32) (harg4 : arg4.IsWhole)
    (x0 : Vec F S32x64x64 .f32) (x1 : Vec F S32x64 .f32) (x2 : Vec F S1x32 .f32) : Vec F S128x32 .f32 :=
  VO0_4.read (Elt F) (VO0_4.writes (Elt F) VO0_4.junk (kernelRun0_A c arg0 harg0 arg1 harg1 arg2 harg2 arg3 harg3 arg4 harg4 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S128x2048 .f32 × Vec F S128x32 .f32 :=
  (out0_A_3 c (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t), out0_A_4 c (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
/-- What the staging buffer of the means holds after a step. -/
theorem after0_1 (c : Dev nD) (t : Fin cfg0.N) : (dat0 V c).after 1 t = iblk0 V c 1 t := by dsimp only [dat0]
/-- What the staging buffer of the scores holds after a step. -/
theorem after0_2 (c : Dev nD) (t : Fin cfg0.N) : (dat0 V c).after 2 t = iblk0 V c 2 t := by dsimp only [dat0]
/-- What the staging buffer of the quadratic coefficients holds after a step. -/
theorem after0_3 (c : Dev nD) (t : Fin cfg0.N) : (dat0 V c).after 3 t = (outsAt0 V c t).1 := by dsimp only [dat0]
/-- What the staging buffer of the offsets and linear coefficients holds after a step. -/
theorem after0_4 (c : Dev nD) (t : Fin cfg0.N) : (dat0 V c).after 4 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What the staging buffer of the means holds before a step. -/
theorem before0_1 (c : Dev nD) (t : Fin cfg0.N) (d) : (dat0 V c).before 1 t d = iblk0 V c 1 t :=
  before0_1_of V (dat0 V c) (A_eq0 V c 1) (after0_1 V c) t d
/-- What the staging buffer of the scores holds before a step. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Exec

end
-- ==== Proof.KernelIdeal.Maha.lean ====
/- The scoring kernel: what its body leaves in its two output buffers, and its obligation to the pipeline. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Exec

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter here, the fold through @main in the run
variable (V : (c : Dev nD) → (b : Ref sig .tc) → Buf (Elt F) ((c : Thread nD τ).loc b))

/-! # REGION 1 of @main: custom_call 1, `cc1__maha_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at every point — by arithmetic of the point. -/
theorem hcond1_0 : ∀ t : Fin cfg1.N, cond1_0 (grid1.coords t) :=
  (fun t => by
    have ht : t.val < 8 := Nat.lt_of_lt_of_eq t.isLt N_1
    have e0 : (grid1.coords t 0).val = t.val / 1 % 8 := Pipeline.Grid.coords_val t 0 (by decide) rfl
    have e1 : (grid1.coords t 1).val = t.val / 1 % 1 := Pipeline.Grid.coords_val t 1 (by decide) rfl
    simp only [cond1_0, k1_cond1, e0, e1]
    word_cmp
   : ∀ t : Fin grid1.N, cond1_0 (grid1.coords t))

/-- The condition of the body's `scf.if` 1 (`k1_h2`), from the grid coordinates (the skeleton's scalar
    chain substituted). -/
abbrev cond1_1 (i : grid1.Coords) : Prop := k1_cond2 i = 1#1
/-- It holds at no point — decided over the grid. -/
theorem hcond1_1 : ∀ t : Fin cfg1.N, ¬cond1_1 (grid1.coords t) :=
  (by decide +kernel : ∀ t : Fin grid1.N, ¬cond1_1 (grid1.coords t))

/-- The condition of the body's `scf.if` 2 (`k1_h3`), from the grid coordinates (the skeleton's scalar
    chain substituted). -/
abbrev cond1_2 (i : grid1.Coords) : Prop := k1_cond3 i = 1#1
/-- It holds at every point — by arithmetic of the point. -/
theorem hcond1_2 : ∀ t : Fin cfg1.N, cond1_2 (grid1.coords t) :=
  (fun t => by
    have ht : t.val < 8 := Nat.lt_of_lt_of_eq t.isLt N_1
    have e0 : (grid1.coords t 0).val = t.val / 1 % 8 := Pipeline.Grid.coords_val t 0 (by decide) rfl
    have e1 : (grid1.coords t 1).val = t.val / 1 % 1 := Pipeline.Grid.coords_val t 1 (by decide) rfl
    simp only [cond1_2, k1_cond3, e0, e1]
    word_cmp
   : ∀ t : Fin grid1.N, cond1_2 (grid1.coords t))

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 live: the case stores into it. -/
theorem liveAt1_3_A : ∀ t : Fin cfg1.N, cond1_0 (grid1.coords t) → ¬cond1_1 (grid1.coords t) → cond1_2 (grid1.coords t) → cfg1.idle 3 (grid1.coords t) = false := by decide +kernel
/-- At the points of case A the printed configuration (`Cfg.idle`) calls output 4 live: the case stores into it. -/
theorem liveAt1_4_A : ∀ t : Fin cfg1.N, cond1_0 (grid1.coords t) → ¬cond1_1 (grid1.coords t) → cond1_2 (grid1.coords t) → cfg1.idle 4 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1x1x4096 .f32 := (Memref.whole cc1_stg3_0 : Memref sig .tc .vmem S1x1x4096 .f32).view
/-- One staging buffer of output window 4, through which its contents are stated (`View.read_writes_of_cover`: the
    choice does not matter). -/
abbrev VO1_4 : View sig .tc .vmem S1x1x4096 .f32 := (Memref.whole cc1_stg4_0 : Memref sig .tc .vmem S1x1x4096 .f32).view
/-- Each window's current staging memref at point `t`, spelled as the pipeline passes it (`bodyAt1`), and its wholeness. -/
abbrev ms1_0 (t : Fin cfg1.N) : Memref sig .tc .vmem S4096x64 .f32 := win1_0.stage (cfg1.slots t 0)
/-- The staging buffer of the points is a whole one. -/
abbrev hs1_0 (t : Fin cfg1.N) : (ms1_0 t).IsWhole := hstage1_0 ((cfg1.slots t 0).cast nbuf1_0)
/-- The staging buffer of the quadratic coefficients at a step. -/
abbrev ms1_1 (t : Fin cfg1.N) : Memref sig .tc .vmem S128x2048 .f32 := win1_1.stage (cfg1.slots t 1)
/-- The staging buffer of the quadratic coefficients is a whole one. -/
abbrev hs1_1 (t : Fin cfg1.N) : (ms1_1 t).IsWhole := hstage1_1 ((cfg1.slots t 1).cast nbuf1_1)
/-- The staging buffer of the offsets and linear coefficients at a step. -/
abbrev ms1_2 (t : Fin cfg1.N) : Memref sig .tc .vmem S128x32 .f32 := win1_2.stage (cfg1.slots t 2)
/-- The staging buffer of the offsets and linear coefficients is a whole one. -/
abbrev hs1_2 (t : Fin cfg1.N) : (ms1_2 t).IsWhole := hstage1_2 ((cfg1.slots t 2).cast nbuf1_2)
/-- The staging buffer of the maxima at a step. -/
abbrev ms1_3 (t : Fin cfg1.N) : Memref sig .tc .vmem S1x1x4096 .f32 := win1_3.stage (cfg1.slots t 3)
/-- The staging buffer of the maxima is a whole one. -/
abbrev hs1_3 (t : Fin cfg1.N) : (ms1_3 t).IsWhole := hstage1_3 ((cfg1.slots t 3).cast nbuf1_3)
/-- The staging buffer of the sums at a step. -/
abbrev ms1_4 (t : Fin cfg1.N) : Memref sig .tc .vmem S1x1x4096 .f32 := win1_4.stage (cfg1.slots t 4)
/-- The staging buffer of the sums is a whole one. -/
abbrev hs1_4 (t : Fin cfg1.N) : (ms1_4 t).IsWhole := hstage1_4 ((cfg1.slots t 4).cast nbuf1_4)

set_option maxHeartbeats 1000000 in
/-- What the body's stores leave in each output's staging memref, as pieces (last first), WITH the
    proof that on whole staging memrefs — the inputs' at their contents, the other outputs' at
    anything, the body runs to the continuation holding the inputs' as they were,
    each output's buffer with its pieces written: the functions are replaced by their skeletons, which are then executed — each `scf.if` decided by the case's hypotheses `hc·`; the pieces are
    the witness that run finds . -/
noncomputable def kernelRun1_A (c : Dev nD) (i : grid1.Coords) (arg2 : Memref sig .tc .vmem S4096x64 .f32) (harg2 : arg2.IsWhole) (arg3 : Memref sig .tc .vmem S128x2048 .f32) (harg3 : arg3.IsWhole) (arg4 : Memref sig .tc .vmem S128x32 .f32) (harg4 : arg4.IsWhole) (arg5 : Memref sig .tc .vmem S1x1x4096 .f32) (harg5 : arg5.IsWhole) (arg6 : Memref sig .tc .vmem S1x1x4096 .f32) (harg6 : arg6.IsWhole) (hc0 : cond1_0 i) (hc1 : ¬cond1_1 i) (hc2 : cond1_2 i)
    (x0 : Vec F S4096x64 .f32) (x1 : Vec F S128x2048 .f32) (x2 : Vec F S128x32 .f32) :
    Σ' (L3 : List (View.Piece (Elt F) S1x1x4096 .f32)), { L4 : List (View.Piece (Elt F) S1x1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc1__maha_body i arg2 harg2 arg3 harg3 arg4 harg4 arg5 harg5 arg6 harg6) K } := by
  refine ⟨?_, ?_, fun E K => ?run⟩
  case run =>
    simp only [cc1__maha_body_eq_skeleton]; unfold cc1__maha_body_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The run's pieces for output 3 tile its block (2 stores of `S1x1x4096`), so they cover it. -/
theorem cover1_A_3 (c : Dev nD) (i : grid1.Coords) (arg2 : Memref sig .tc .vmem S4096x64 .f32) (harg2 : arg2.IsWhole) (arg3 : Memref sig .tc .vmem S128x2048 .f32) (harg3 : arg3.IsWhole) (arg4 : Memref sig .tc .vmem S128x32 .f32) (harg4 : arg4.IsWhole) (arg5 : Memref sig .tc .vmem S1x1x4096 .f32) (harg5 : arg5.IsWhole) (arg6 : Memref sig .tc .vmem S1x1x4096 .f32) (harg6 : arg6.IsWhole) (hc0 : cond1_0 i) (hc1 : ¬cond1_1 i) (hc2 : cond1_2 i)
    (x0 : Vec F S4096x64 .f32) (x1 : Vec F S128x2048 .f32) (x2 : Vec F S128x32 .f32) (y : S1x1x4096.Idx) :
    ∃ pc ∈ (kernelRun1_A c i arg2 harg2 arg3 harg3 arg4 harg4 arg5 harg5 arg6 harg6 hc0 hc1 hc2 x0 x1 x2).1, y ∈ pc.1.set :=
  View.cover_of_tiledL (kernelRun1_A c i arg2 harg2 arg3 harg3 arg4 harg4 arg5 harg5 arg6 harg6 hc0 hc1 hc2 x0 x1 x2).1 S1x1x4096.size (by sl_kernel_rfl) y

/-- What the run leaves in output 3's staging buffer: its pieces read back over junk. -/
def out1_A_3 (c : Dev nD) (i : grid1.Coords) (arg2 : Memref sig .tc .vmem S4096x64 .f32) (harg2 : arg2.IsWhole) (arg3 : Memref sig .tc .vmem S128x2048 .f32) (harg3 : arg3.IsWhole) (arg4 : Memref sig .tc .vmem S128x32 .f32) (harg4 : arg4.IsWhole) (arg5 : Memref sig .tc .vmem S1x1x4096 .f32) (harg5 : arg5.IsWhole) (arg6 : Memref sig .tc .vmem S1x1x4096 .f32) (harg6 : arg6.IsWhole) (hc0 : cond1_0 i) (hc1 : ¬cond1_1 i) (hc2 : cond1_2 i)
    (x0 : Vec F S4096x64 .f32) (x1 : Vec F S128x2048 .f32) (x2 : Vec F S128x32 .f32) : Vec F S1x1x4096 .f32 :=
  VO1_3.read (Elt F) (VO1_3.writes (Elt F) VO1_3.junk (kernelRun1_A c i arg2 harg2 arg3 harg3 arg4 harg4 arg5 harg5 arg6 harg6 hc0 hc1 hc2 x0 x1 x2).1)

/-- The run's pieces for output 4 tile its block (2 stores of `S1x1x4096`), so they cover it. -/
theorem cover1_A_4 (c : Dev nD) (i : grid1.Coords) (arg2 : Memref sig .tc .vmem S4096x64 .f32) (harg2 : arg2.IsWhole) (arg3 : Memref sig .tc .vmem S128x2048 .f32) (harg3 : arg3.IsWhole) (arg4 : Memref sig .tc .vmem S128x32 .f32) (harg4 : arg4.IsWhole) (arg5 : Memref sig .tc .vmem S1x1x4096 .f32) (harg5 : arg5.IsWhole) (arg6 : Memref sig .tc .vmem S1x1x4096 .f32) (harg6 : arg6.IsWhole) (hc0 : cond1_0 i) (hc1 : ¬cond1_1 i) (hc2 : cond1_2 i)
    (x0 : Vec F S4096x64 .f32) (x1 : Vec F S128x2048 .f32) (x2 : Vec F S128x32 .f32) (y : S1x1x4096.Idx) :
    ∃ pc ∈ (kernelRun1_A c i arg2 harg2 arg3 harg3 arg4 harg4 arg5 harg5 arg6 harg6 hc0 hc1 hc2 x0 x1 x2).2.1, y ∈ pc.1.set :=
  View.cover_of_tiledL (kernelRun1_A c i arg2 harg2 arg3 harg3 arg4 harg4 arg5 harg5 arg6 harg6 hc0 hc1 hc2 x0 x1 x2).2.1 S1x1x4096.size (by sl_kernel_rfl) y

/-- What the run leaves in output 4's staging buffer: its pieces read back over junk. -/
def out1_A_4 (c : Dev nD) (i : grid1.Coords) (arg2 : Memref sig .tc .vmem S4096x64 .f32) (harg2 : arg2.IsWhole) (arg3 : Memref sig .tc .vmem S128x2048 .f32) (harg3 : arg3.IsWhole) (arg4 : Memref sig .tc .vmem S128x32 .f32) (harg4 : arg4.IsWhole) (arg5 : Memref sig .tc .vmem S1x1x4096 .f32) (harg5 : arg5.IsWhole) (arg6 : Memref sig .tc .vmem S1x1x4096 .f32) (harg6 : arg6.IsWhole) (hc0 : cond1_0 i) (hc1 : ¬cond1_1 i) (hc2 : cond1_2 i)
    (x0 : Vec F S4096x64 .f32) (x1 : Vec F S128x2048 .f32) (x2 : Vec F S128x32 .f32) : Vec F S1x1x4096 .f32 :=
  VO1_4.read (Elt F) (VO1_4.writes (Elt F) VO1_4.junk (kernelRun1_A c i arg2 harg2 arg3 harg3 arg4 harg4 arg5 harg5 arg6 harg6 hc0 hc1 hc2 x0 x1 x2).2.1)

/-! ## What the outputs hold after each point -/

/-- What the outputs' staging buffers hold after the body at point `t` (as a tuple, in window order): the run's contents at
    the point's memrefs and input blocks. -/
def outsAt1 (c : Dev nD) (t : Fin cfg1.N) : Vec F S1x1x4096 .f32 × Vec F S1x1x4096 .f32 :=
  (out1_A_3 c (grid1.coords t) (ms1_0 t) (hs1_0 t) (ms1_1 t) (hs1_1 t) (ms1_2 t) (hs1_2 t) (ms1_3 t) (hs1_3 t) (ms1_4 t) (hs1_4 t) (hcond1_0 t) (hcond1_1 t) (hcond1_2 t) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (hcond1_0 t) (hcond1_1 t) (hcond1_2 t) (iblk1 V c 0 t) (iblk1 V c 1 t) (iblk1 V c 2 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t).1
    | ⟨4, _⟩ => (outsAt1 V c t).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
/-- What the staging buffer of the quadratic coefficients holds after a step. -/
theorem after1_1 (c : Dev nD) (t : Fin cfg1.N) : (dat1 V c).after 1 t = iblk1 V c 1 t := by dsimp only [dat1]
/-- What the staging buffer of the offsets and linear coefficients holds after a step. -/
theorem after1_2 (c : Dev nD) (t : Fin cfg1.N) : (dat1 V c).after 2 t = iblk1 V c 2 t := by dsimp only [dat1]
/-- What the staging buffer of the maxima holds after a step. -/
theorem after1_3 (c : Dev nD) (t : Fin cfg1.N) : (dat1 V c).after 3 t = (outsAt1 V c t).1 := by dsimp only [dat1]
/-- What the staging buffer of the sums holds after a step. -/
theorem after1_4 (c : Dev nD) (t : Fin cfg1.N) : (dat1 V c).after 4 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the staging buffer of the quadratic coefficients holds before a step. -/
theorem before1_1 (c : Dev nD) (t : Fin cfg1.N) (d) : (dat1 V c).before 1 t d = iblk1 V c 1 t :=
  before1_1_of V (dat1 V c) (A_eq1 V c 1) (after1_1 V c) t d
/-- What the staging buffer of the offsets and linear coefficients holds before a step. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3_A t (hcond1_0 t) (hcond1_1 t) (hcond1_2 t)], after1_3]
  rw [show (dat1 V c).leavesExact 4 t = owns (c : Thread nD τ) (ms1_4 t) fullShare ((dat1 V c).after 4 t) from by
      unfold Dat.leavesExact; rw [liveAt1_4_A t (hcond1_0 t) (hcond1_1 t) (hcond1_2 t)], after1_4]
  unfold outsAt1
  unfold out1_A_3 out1_A_4; (try dsimp only)
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (hcond1_0 t) (hcond1_1 t) (hcond1_2 t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_A_3 c _ _ _ _ _ _ _ _ _ _ _ _ _ _ _ _ _)
  unfold owns; iexists _; isplitr
  swap; · iexact H4
  ipureintro; exact View.read_writes_of_cover _ _ _ _ _ (cover1_A_4 c _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Exec

end
-- ==== Proof.KernelIdeal.Frame.lean ====
/- The whole program: the buffer contents at every boundary of @main, a fold from the launch memory, and the run
   that ends with every unscoped buffer at the last boundary's contents and every semaphore counter at zero. -/
module

public import proofs.«01_k».proof.Proof.KernelIdeal.Prep
public import proofs.«01_k».proof.Proof.KernelIdeal.Maha

@[expose] public section

set_option maxRecDepth 16384

noncomputable section

namespace Cert.KernelIdeal.Exec

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- The operations of `hostOps0` write only the listed references. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4, main_v5, main_v6, main_cst, main_v7, main_v8, main_v9, main_v10, main_v11, main_cst_0, main_v12, main_v13, main_v14, main_v15]
/-- The operations of `hostOps2` write only the listed references. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At the launch the arguments hold the launch memory. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Before the first call the arguments hold the launch memory. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the first call each of its arrays holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves every other buffer as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After the first call the arguments hold the launch memory. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The first call changes no buffer but its arrays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
/-- After the second call each of its arrays holds what the call leaves in it. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second call leaves every other buffer as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After the second call the arguments hold the launch memory. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The second call changes no buffer but its arrays. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the return the arguments hold the launch memory. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- At the return the points hold the launch memory. -/
theorem W4_main_arg0 (c : Dev nD) : W4 m ρ c (Proc.devRef .tc main_arg0) = m ((c : Thread nD τ).loc main_arg0) :=
  W4_args m ρ c main_arg0 (by decide)
/-- At the return the means hold the launch memory. -/
theorem W4_main_arg1 (c : Dev nD) : W4 m ρ c (Proc.devRef .tc main_arg1) = m ((c : Thread nD τ).loc main_arg1) :=
  W4_args m ρ c main_arg1 (by decide)
/-- At the return the triangles hold the launch memory. -/
theorem W4_main_arg2 (c : Dev nD) : W4 m ρ c (Proc.devRef .tc main_arg2) = m ((c : Thread nD τ).loc main_arg2) :=
  W4_args m ρ c main_arg2 (by decide)
/-- At the return the scores hold the launch memory. -/
theorem W4_main_arg3 (c : Dev nD) : W4 m ρ c (Proc.devRef .tc main_arg3) = m ((c : Thread nD τ).loc main_arg3) :=
  W4_args m ρ c main_arg3 (by decide)
/-- At the return the unused integer holds the launch memory. -/
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No variants: nothing in the program loops without a bound. -/
abbrev 𝒱₀ : Variants := Variants.none
/-- No core owes another anything: no level is assigned. -/
abbrev L : GSem nD τ sig → Finset Unit := fun _ => ∅
/-- Every semaphore has level zero. -/
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every weakly fair execution of @main on the TensorCores terminates, nothing
    faulting, and every final state has each unscoped buffer at the last boundary's contents and every semaphore counter at
    zero: the launch over the segments, the last thread state read against the final state. -/
theorem run_contents : θ_run defs (onTc (τ := τ) (main (F := F))) ⟨m, fun _ => 0, ρ⟩ (fun r =>
      (∀ (c : Dev nD), ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the claim's statement at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (run_contents m ρ)

/-- The run with its result: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨h.1 c _ (mem_uc main_v15 (by decide)),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩) (run_contents m ρ)

end Cert.KernelIdeal.Exec

end
-- ==== Proof.Math.Sweep.lean ====
/- Gauss-Jordan elimination of a positive definite real matrix, in its two storage forms: the augmented pair
   `(A, B)` that starts at `(S, 1)`, and the single matrix swept in place that starts at `S`.  Both meet the same
   pivots, every pivot is positive, and both end in the inverse of `S`, which is symmetric. -/
module

public import Idealize.ShloMosaic.Lib.Pointwise
public import Mathlib.LinearAlgebra.Matrix.NonsingularInverse

@[expose] public section

noncomputable section

namespace Cert.Math

open Finset

variable {n : ℕ}

/-- One elimination step of the augmented pair at row `i`: the pivot row is divided by the pivot, every other
    row loses its multiple of the divided pivot row, on both sides. -/
def gj (i : Fin n) (A X : Fin n → Fin n → ℝ) : Fin n → Fin n → ℝ :=
  fun r c => if r = i then X i c / A i i else X r c - A r i * (X i c / A i i)

/-- The pair `(A, B)` after the first `k` elimination steps. -/
def gjs (S : Fin n → Fin n → ℝ) : ℕ → (Fin n → Fin n → ℝ) × (Fin n → Fin n → ℝ)
  | 0 => (S, fun r c => if r = c then 1 else 0)
  | k + 1 => if h : k < n then (gj ⟨k, h⟩ (gjs S k).1 (gjs S k).1, gj ⟨k, h⟩ (gjs S k).1 (gjs S k).2) else gjs S k

/-- One step of the sweep in place at row `i`. -/
def sw (i : Fin n) (M : Fin n → Fin n → ℝ) : Fin n → Fin n → ℝ :=
  fun r c => if r = i then (if c = i then 1 / M i i else M i c * (1 / M i i))
    else if c = i then (0 - M r i) * (1 / M i i) else M r c - M r i * (M i c * (1 / M i i))

/-- The swept matrix after the first `k` steps. -/
def sws (S : Fin n → Fin n → ℝ) : ℕ → Fin n → Fin n → ℝ
  | 0 => S
  | k + 1 => if h : k < n then sw ⟨k, h⟩ (sws S k) else sws S k

/-- A symmetric matrix whose quadratic form is positive off zero. -/
structure PD (S : Fin n → Fin n → ℝ) : Prop where
  symm : ∀ r c, S r c = S c r
  pos : ∀ b : Fin n → ℝ, b ≠ 0 → 0 < ∑ r, ∑ c, b r * S r c * b c

/-- The state of the elimination after `k` steps: `A = B S`, the first `k` columns of `A` and the last `n - k`
    columns of `B` are unit columns. -/
structure Inv (S : Fin n → Fin n → ℝ) (k : ℕ) (A B : Fin n → Fin n → ℝ) : Prop where
  prod : ∀ r c, A r c = ∑ e, B r e * S e c
  left : ∀ r c : Fin n, c.val < k → A r c = if r = c then 1 else 0
  right : ∀ r c : Fin n, k ≤ c.val → B r c = if r = c then 1 else 0

/-- The pivot of a state is the quadratic form at the pivot row of `B`, so it is positive. -/
theorem Inv.pivot {S : Fin n → Fin n → ℝ} (hS : PD S) {A B : Fin n → Fin n → ℝ} (i : Fin n) (h : Inv S i.val A B) :
    0 < A i i := by
  have hb : B i ≠ 0 := fun e => by
    have h1 := h.right i i le_rfl
    rw [e, if_pos rfl] at h1
    exact zero_ne_one h1
  have hq := hS.pos (B i) hb
  have : ∑ r, ∑ c, B i r * S r c * B i c = A i i := by
    rw [Finset.sum_comm]
    have h2 : ∀ c, ∑ r, B i r * S r c * B i c = A i c * B i c := fun c => by
      rw [h.prod i c, Finset.sum_mul]
    simp only [h2]
    rw [Finset.sum_eq_single i]
    · rw [h.right i i le_rfl, if_pos rfl, mul_one]
    · intro c _ hc
      rcases lt_or_ge c.val i.val with hlt | hge
      · rw [h.left i c hlt, if_neg (fun e => hc e.symm), zero_mul]
      · rw [h.right i c hge, if_neg (fun e => hc e.symm), mul_zero]
    · intro hc
      exact absurd (Finset.mem_univ i) hc
  rwa [this] at hq

/-- An elimination step keeps the state's description. -/
theorem Inv.step {S : Fin n → Fin n → ℝ} (hS : PD S) {A B : Fin n → Fin n → ℝ} (i : Fin n) (h : Inv S i.val A B) :
    Inv S (i.val + 1) (gj i A A) (gj i A B) := by
  have hp : A i i ≠ 0 := (h.pivot hS i).ne'
  refine ⟨fun r c => ?_, fun r c hc => ?_, fun r c hc => ?_⟩
  · unfold gj
    split_ifs with hr
    · rw [h.prod i c, Finset.sum_div]
      exact Finset.sum_congr rfl fun e _ => by ring
    · have hr' : ∀ e, (B r e - A r i * (B i e / A i i)) * S e c = B r e * S e c - (A r i / A i i) * (B i e * S e c) :=
        fun e => by ring
      simp only [hr']
      rw [Finset.sum_sub_distrib, ← Finset.mul_sum, ← h.prod r c, ← h.prod i c]
      ring
  · unfold gj
    rcases Nat.lt_succ_iff_lt_or_eq.mp hc with hlt | heq
    · have hic : i ≠ c := fun e => by rw [e] at hlt; exact lt_irrefl _ hlt
      rw [h.left i c hlt, h.left r c hlt, if_neg hic]
      split_ifs with hr hrc hrc
      · exact absurd (hr.symm.trans hrc) hic
      · simp
      · simp
      · simp
    · have hci : c = i := Fin.ext heq
      subst hci
      split_ifs with hr
      · exact div_self hp
      · rw [div_self hp]; ring
  · unfold gj
    have hic : i ≠ c := fun e => by rw [e] at hc; omega
    rw [h.right i c (by omega), h.right r c (by omega), if_neg hic]
    split_ifs with hr hrc hrc
    · exact absurd (hr.symm.trans hrc) hic
    · simp
    · simp
    · simp

/-- The starting pair satisfies the description at `0`. -/
theorem Inv.init (S : Fin n → Fin n → ℝ) : Inv S 0 S (fun r c => if r = c then 1 else 0) := by
  refine ⟨fun r c => ?_, fun r c hc => absurd hc (Nat.not_lt_zero _), fun r c _ => rfl⟩
  simp

/-- The description holds after every number of steps. -/
theorem inv_gjs {S : Fin n → Fin n → ℝ} (hS : PD S) : ∀ k, k ≤ n → Inv S k (gjs S k).1 (gjs S k).2
  | 0, _ => Inv.init S
  | k + 1, hk => by
    have hk' : k < n := hk
    have := (inv_gjs hS k hk'.le).step hS ⟨k, hk'⟩
    simpa only [gjs, dif_pos hk'] using this

/-- Every pivot of the elimination is positive. -/
theorem gjs_pivot {S : Fin n → Fin n → ℝ} (hS : PD S) (i : Fin n) : 0 < (gjs S i.val).1 i i :=
  (inv_gjs hS i.val i.isLt.le).pivot hS i

/-- The swept matrix holds the finished columns of `B` and the open columns of `A`. -/
theorem sws_eq {S : Fin n → Fin n → ℝ} (hS : PD S) : ∀ k, k ≤ n → ∀ r c : Fin n,
    sws S k r c = if c.val < k then (gjs S k).2 r c else (gjs S k).1 r c
  | 0, _ => fun r c => by simp [sws, gjs]
  | k + 1, hk => fun r c => by
    have hk' : k < n := hk
    have ih := sws_eq hS k hk'.le
    have hI := inv_gjs hS k hk'.le
    set i : Fin n := ⟨k, hk'⟩ with hi
    have hMi : ∀ r, sws S k r i = (gjs S k).1 r i := fun r => by rw [ih]; simp [hi]
    simp only [sws, gjs, dif_pos hk', ← hi]
    unfold sw gj
    rw [hMi i, hMi r]
    by_cases hci : c = i
    · subst hci
      have hlt : i.val < k + 1 := by simp [hi]
      rw [hI.right i i (by simp [hi]), hI.right r i (by simp [hi])]
      by_cases hr : r = i
      · simp [hr, hlt]
      · simp [hr, hlt]
    · have hne : c.val ≠ k := fun e => hci (Fin.ext e)
      rw [ih i c, ih r c]
      rcases lt_or_gt_of_ne hne with hlt | hgt
      · have h1 : c.val < k + 1 := by omega
        by_cases hr : r = i
        · simp only [hci, hr, hlt, h1, if_true, if_false]; ring
        · simp only [hci, hr, hlt, h1, if_true, if_false]; ring
      · have h1 : ¬ c.val < k + 1 := by omega
        have h2 : ¬ c.val < k := by omega
        by_cases hr : r = i
        · simp only [hci, hr, h1, h2, if_true, if_false]; ring
        · simp only [hci, hr, h1, h2, if_true, if_false]; ring

/-- The sweep meets the elimination's pivots. -/
theorem sws_pivot {S : Fin n → Fin n → ℝ} (hS : PD S) (i : Fin n) : sws S i.val i i = (gjs S i.val).1 i i := by
  rw [sws_eq hS i.val i.isLt.le, if_neg (lt_irrefl _)]

/-- Every pivot of the sweep is positive. -/
theorem sws_pivot_pos {S : Fin n → Fin n → ℝ} (hS : PD S) (i : Fin n) : 0 < sws S i.val i i := by
  rw [sws_pivot hS]; exact gjs_pivot hS i

/-- The finished sweep is the elimination's right half. -/
theorem sws_final {S : Fin n → Fin n → ℝ} (hS : PD S) (r c : Fin n) : sws S n r c = (gjs S n).2 r c := by
  rw [sws_eq hS n le_rfl, if_pos c.isLt]

/-- The elimination's right half ends symmetric: it is a left inverse of a symmetric matrix. -/
theorem gjs_symm {S : Fin n → Fin n → ℝ} (hS : PD S) (r c : Fin n) : (gjs S n).2 r c = (gjs S n).2 c r := by
  have hI := inv_gjs hS n le_rfl
  set B : Matrix (Fin n) (Fin n) ℝ := (gjs S n).2 with hB
  let T : Matrix (Fin n) (Fin n) ℝ := S
  have h1 : B * T = 1 := by
    ext r c
    rw [Matrix.mul_apply, ← hI.prod r c, hI.left r c c.isLt, Matrix.one_apply]
  have hT : T.transpose = T := by
    ext r c
    exact hS.symm c r
  have h2 : T * B.transpose = 1 := by
    have := congrArg Matrix.transpose h1
    rwa [Matrix.transpose_mul, hT, Matrix.transpose_one] at this
  have h3 : B = B.transpose := by
    calc B = B * (T * B.transpose) := by rw [h2, mul_one]
      _ = B.transpose := by rw [← mul_assoc, h1, one_mul]
  exact congrFun (congrFun h3 r) c

/-- `L Lᵀ + 1` is symmetric with a positive quadratic form. -/
theorem pd_gram (L : Fin n → Fin n → ℝ) :
    PD (fun r c => (∑ e, L r e * L c e) + if r = c then 1 else 0) := by
  refine ⟨fun r c => ?_, fun b hb => ?_⟩
  · simp only [eq_comm (a := r) (b := c)]
    congr 1
    exact Finset.sum_congr rfl fun e _ => mul_comm _ _
  · have h1 : ∑ r, ∑ c, b r * ((∑ e, L r e * L c e) + if r = c then 1 else 0) * b c
        = (∑ e, (∑ r, b r * L r e) ^ 2) + ∑ r, b r ^ 2 := by
      have hl : ∀ r c, b r * ((∑ e, L r e * L c e) + if r = c then 1 else 0) * b c
          = (∑ e, (b r * L r e) * (b c * L c e)) + if r = c then b r * b c else 0 := fun r c => by
        rw [mul_add, add_mul, Finset.mul_sum, Finset.sum_mul]
        congr 1
        · exact Finset.sum_congr rfl fun e _ => by ring
        · split_ifs <;> ring
      simp only [hl, Finset.sum_add_distrib]
      congr 1
      · have : ∀ r, ∑ c, ∑ e, (b r * L r e) * (b c * L c e) = ∑ e, ∑ c, (b r * L r e) * (b c * L c e) :=
          fun r => Finset.sum_comm
        simp only [this]
        rw [Finset.sum_comm]
        refine Finset.sum_congr rfl fun e _ => ?_
        rw [sq, Finset.sum_mul_sum]
      · refine Finset.sum_congr rfl fun r _ => ?_
        simp [sq]
    rw [h1]
    obtain ⟨i, hi⟩ : ∃ i, b i ≠ 0 := by
      by_contra hcon
      exact hb (funext fun j => by_contra fun hj => hcon ⟨j, hj⟩)
    have h2 : 0 < ∑ r, b r ^ 2 :=
      Finset.sum_pos' (fun r _ => sq_nonneg _) ⟨i, Finset.mem_univ i, by positivity⟩
    have h3 : 0 ≤ ∑ e, (∑ r, b r * L r e) ^ 2 := Finset.sum_nonneg fun e _ => sq_nonneg _
    linarith

end Cert.Math

end

end
-- ==== Proof.Math.Coe.lean ====
/- Reals inside the extended reals: sums, maxima, quotients, exponentials and logarithms of real values are real, and
   the two ways of taking `log ∑ exp` with a subtracted offset agree with the plain one. -/
module

public import Idealize.ShloMosaic.Lib.Pointwise
public import Idealize.ShloMosaic.Lib.WordCmp
public import Mathlib.Analysis.SpecialFunctions.Log.Basic

@[expose] public section

noncomputable section

namespace Cert.Math

open Idealize.ShloMosaic

/-- A finite sum of reals, taken in the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of a nonempty finite family of reals, folded from `-∞`, is a real. -/
theorem coe_fold_max {ι : Type} [Fintype ι] [Nonempty ι] (f : ι → ℝ) :
    ∃ M : ℝ, (Finset.univ.fold max (⊥ : EReal) fun k => ((f k : ℝ) : EReal)) = (M : EReal) := by
  classical
  have key : ∀ s : Finset ι, s.Nonempty → ∃ M : ℝ, (s.fold max (⊥ : EReal) fun k => ((f k : ℝ) : EReal)) = (M : EReal) := by
    intro s hs
    induction hs using Finset.Nonempty.cons_induction with
    | singleton a => exact ⟨f a, by simp⟩
    | cons a s ha hs ih =>
      obtain ⟨M, hM⟩ := ih
      refine ⟨max (f a) M, ?_⟩
      rw [Finset.fold_cons, hM]
      exact (EReal.coe_strictMono.monotone.map_max).symm
  exact key _ Finset.univ_nonempty

/-- The quotient of reals with a nonzero divisor. -/
theorem div_coe_coe (a : ℝ) {b : ℝ} (hb : b ≠ 0) : Ideal.div (a : EReal) (b : EReal) = ((a / b : ℝ) : EReal) := by
  rw [Ideal.div_coe hb, ← EReal.coe_mul, mul_one_div]

/-- The logarithm of a positive real. -/
theorem log_coe_pos {a : ℝ} (ha : 0 < a) : Ideal.log (a : EReal) = ((Real.log a : ℝ) : EReal) := by
  rw [Ideal.log_coe, if_neg (not_le.mpr ha)]

/-- The absolute value of a positive real. -/
theorem abs_coe_pos {a : ℝ} (ha : 0 < a) : max (a : EReal) (-(a : EReal)) = (a : EReal) := by
  rw [← EReal.coe_neg]
  exact max_eq_left (EReal.coe_le_coe_iff.mpr (by linarith))

/-- `M + log ∑ exp (x - M)` is `log ∑ exp x`, whatever the offset `M`. -/
theorem lse_shift {ι : Type} [Fintype ι] [Nonempty ι] (x : ι → ℝ) (M : ℝ) :
    M + Real.log (∑ k, Real.exp (x k - M)) = Real.log (∑ k, Real.exp (x k)) := by
  have h1 : ∑ k, Real.exp (x k - M) = (∑ k, Real.exp (x k)) * Real.exp (-M) := by
    rw [Finset.sum_mul]
    exact Finset.sum_congr rfl fun k _ => by rw [← Real.exp_add, sub_eq_add_neg]
  have h2 : 0 < ∑ k, Real.exp (x k) := Finset.sum_pos (fun k _ => Real.exp_pos _) Finset.univ_nonempty
  rw [h1, Real.log_mul h2.ne' (Real.exp_pos _).ne', Real.log_exp]
  ring

/-- Rescaling row sums of exponentials from their own offsets to one offset. -/
theorem rescale_sum {ι κ : Type} [Fintype ι] [Fintype κ] (s : ι → κ → ℝ) (m : ι → ℝ) (M : ℝ) :
    ∑ n, (∑ k, Real.exp (s n k - m n)) * Real.exp (m n - M) = ∑ n, ∑ k, Real.exp (s n k - M) := by
  refine Finset.sum_congr rfl fun n _ => ?_
  rw [Finset.sum_mul]
  refine Finset.sum_congr rfl fun k _ => ?_
  rw [← Real.exp_add, sub_add_sub_cancel]

/-- A sum of exponentials is positive. -/
theorem sum_exp_pos {ι : Type} [Fintype ι] [Nonempty ι] (x : ι → ℝ) : 0 < ∑ k, Real.exp (x k) :=
  Finset.sum_pos (fun k _ => Real.exp_pos _) Finset.univ_nonempty

/-- A select on the equality of two small words is the test on their numbers. -/
theorem select_eq_word {α : Type} {a b : ℕ} (ha : a < 2 ^ 32) (hb : b < 2 ^ 32) (x y : α) :
    Scalar.select (IntOp.cmpi .eq (BitVec.ofNat 32 a) (BitVec.ofNat 32 b)) x y = if a = b then x else y := by
  by_cases h : a = b
  · subst h
    rw [if_pos rfl, IntOp.cmpi_eq_self]; rfl
  · rw [if_neg h, WordCmp.select_of_eq_zero]
    exact (WordCmp.cmpi_eq_ofNat_eq_zero_iff ha hb).mpr h

/-- A select on `≥` of two small words is the test on their numbers. -/
theorem select_ge_word {α : Type} {a b : ℕ} (ha : a < 2 ^ 31) (hb : b < 2 ^ 31) (x y : α) :
    Scalar.select (IntOp.cmpi .sge (BitVec.ofNat 32 a) (BitVec.ofNat 32 b)) x y = if b ≤ a then x else y := by
  by_cases h : b ≤ a
  · rw [if_pos h, WordCmp.select_of_eq_one]
    exact (WordCmp.cmpi_sge_ofNat_eq_one_iff ha hb).mpr h
  · rw [if_neg h, WordCmp.select_of_eq_zero]
    exact (WordCmp.cmpi_sge_ofNat_eq_zero_iff ha hb).mpr (by omega)

/-- The equality bit of two small words, widened and converted from a signed word, is `1` or `0`. -/
theorem eye_word {a b : ℕ} (ha : a < 2 ^ 32) (hb : b < 2 ^ 32) :
    (FloatOps.sitofp (F := Ideal) FTy.f32 (BitVec.setWidth 32 (IntOp.cmpi .eq (BitVec.ofNat 32 a) (BitVec.ofNat 32 b))) : EReal)
      = ((if a = b then 1 else 0 : ℝ) : EReal) := by
  rw [WordCmp.cmpi_eq_ofNat ha hb]
  by_cases h : a = b
  · simp only [h, if_true, decide_true]
    show (((BitVec.setWidth 32 (BitVec.ofBool true)).toInt : ℝ) : EReal) = ((1 : ℝ) : EReal)
    rw [show (BitVec.setWidth 32 (BitVec.ofBool true)).toInt = 1 by decide]; simp
  · simp only [h, if_false, decide_false]
    show (((BitVec.setWidth 32 (BitVec.ofBool false)).toInt : ℝ) : EReal) = ((0 : ℝ) : EReal)
    rw [show (BitVec.setWidth 32 (BitVec.ofBool false)).toInt = 0 by decide]; simp

/-- The equality bit of two small words, converted from an unsigned word, is `1` or `0`. -/
theorem eye_bit {a b : ℕ} (ha : a < 2 ^ 32) (hb : b < 2 ^ 32) :
    (FloatOps.uitofp (F := Ideal) FTy.f32 (IntOp.cmpi .eq (BitVec.ofNat 32 a) (BitVec.ofNat 32 b)) : EReal)
      = ((if a = b then 1 else 0 : ℝ) : EReal) := by
  rw [WordCmp.cmpi_eq_ofNat ha hb]
  by_cases h : a = b
  · simp only [h, if_true, decide_true]
    show (((BitVec.ofBool true).toNat : ℝ) : EReal) = ((1 : ℝ) : EReal)
    rw [show (BitVec.ofBool true).toNat = 1 by decide]; simp
  · simp only [h, if_false, decide_false]
    show (((BitVec.ofBool false).toNat : ℝ) : EReal) = ((0 : ℝ) : EReal)
    rw [show (BitVec.ofBool false).toNat = 0 by decide]; simp

/-- The pattern of `-0.5`. -/
theorem ofBits_neg_half : Ideal.ofBits .f32 0xBF000000#32 = ((-(1 / 2) : ℝ) : EReal) := by
  simp [Ideal.ofBits, Ideal.ieee]
  norm_num
  rw [← EReal.coe_mul]
  norm_num

/-- The pattern of `0.5`. -/
theorem ofBits_half : Ideal.ofBits .f32 0x3F000000#32 = ((1 / 2 : ℝ) : EReal) := by
  simp [Ideal.ofBits, Ideal.ieee]
  norm_num
  rw [← EReal.coe_mul]
  norm_num

/-- The pattern of `-∞`. -/
theorem ofBits_neg_inf : Ideal.ofBits .f32 0xFF800000#32 = (⊥ : EReal) := by
  simp [Ideal.ofBits, Ideal.ieee]

/-- The pattern of `+∞`. -/
theorem ofBits_pos_inf : Ideal.ofBits .f32 0x7F800000#32 = (⊤ : EReal) := by
  simp [Ideal.ofBits, Ideal.ieee]

/-- The real both programs hold for `64 log 2π`. -/
def cst : ℝ := (Ideal.ofBits .f32 0x42EB3F8E#32).toReal

/-- The pattern both programs hold for `64 log 2π` is a real. -/
theorem ofBits_cst : Ideal.ofBits .f32 0x42EB3F8E#32 = ((cst : ℝ) : EReal) := by
  unfold cst
  simp [Ideal.ofBits, Ideal.ieee]
  rw [← EReal.coe_mul, EReal.toReal_coe]

/-- The induction variable of a loop from zero with step one. -/
theorem iv_word (k : ℕ) : (0#32 + BitVec.ofNat 32 k * 1#32) = BitVec.ofNat 32 k := by
  rw [BitVec.mul_one, BitVec.zero_add]

/-- A fold over the loop's counter keeps what each trip keeps. -/
theorem foldl_inv {α : Type} : ∀ (n : ℕ) (g : Fin n → α → α) (P : ℕ → α → Prop) (init : α), P 0 init →
    (∀ (k : Fin n) (a : α), P k.val a → P (k.val + 1) (g k a)) → P n ((List.finRange n).foldl (fun acc k => g k acc) init)
  | 0, _, _, _, h0, _ => by simpa using h0
  | n + 1, g, P, init, h0, hs => by
    rw [List.finRange_succ_last, List.foldl_append, List.foldl_map]
    exact hs (Fin.last n) _ (foldl_inv n (fun k => g k.castSucc) P init h0 fun k a h => hs k.castSucc a h)

end Cert.Math

end

end
-- ==== Proof.Math.Model.lean ====
/- The mixture's negative log-likelihood over the reals: what both programs are shown to compute. -/
module

public import proofs.«01_k».proof.Proof.Math.Sweep
public import proofs.«01_k».proof.Proof.Math.Coe

@[expose] public section

noncomputable section

namespace Cert.Math

open Idealize.ShloMosaic

/-- The lower triangle of a matrix. -/
def lower (L : Fin 64 → Fin 64 → ℝ) : Fin 64 → Fin 64 → ℝ := fun r e => if e.val ≤ r.val then L r e else 0

/-- The covariance of one component: `L Lᵀ + 1` of the lower triangle. -/
def cov (L : Fin 64 → Fin 64 → ℝ) : Fin 64 → Fin 64 → ℝ :=
  fun r c => (∑ e, lower L r e * lower L c e) + if r = c then 1 else 0

/-- A covariance is symmetric with a positive quadratic form. -/
theorem cov_pd (L : Fin 64 → Fin 64 → ℝ) : PD (cov L) := pd_gram (lower L)

/-- The logarithms of the first `k` pivots, added up. -/
def logdet (S : Fin 64 → Fin 64 → ℝ) : ℕ → ℝ
  | 0 => 0
  | k + 1 => if h : k < 64 then logdet S k + Real.log ((gjs S k).1 ⟨k, h⟩ ⟨k, h⟩) else logdet S k

/-- The precision matrix of one component: where the elimination of its covariance ends. -/
def prec (L : Fin 64 → Fin 64 → ℝ) : Fin 64 → Fin 64 → ℝ := (gjs (cov L) 64).2

/-- The precision matrix is symmetric. -/
theorem prec_symm (L : Fin 64 → Fin 64 → ℝ) (r c : Fin 64) : prec L r c = prec L c r := gjs_symm (cov_pd L) r c

/-- The quadratic form of a matrix at a vector. -/
def quad (P : Fin 64 → Fin 64 → ℝ) (z : Fin 64 → ℝ) : ℝ := ∑ e, z e * ∑ d, P d e * z d

/-- The logarithm of a mixture weight: its score less the log-sum-exp of all scores. -/
def logw (w : Fin 32 → ℝ) (k : Fin 32) : ℝ := w k - Real.log (∑ j, Real.exp (w j))

/-- The weighted log-density of one component at a point (`C` is `64 log 2π` as both programs hold it). -/
def logp (C : ℝ) (w : Fin 32 → ℝ) (L : Fin 32 → Fin 64 → Fin 64 → ℝ) (mu : Fin 32 → Fin 64 → ℝ) (x : Fin 64 → ℝ)
    (k : Fin 32) : ℝ :=
  -(1 / 2) * ((C + logdet (cov (L k)) 64) + quad (prec (L k)) (fun d => x d - mu k d)) + logw w k

/-- The negative log-likelihood of all points. -/
def nll (C : ℝ) (w : Fin 32 → ℝ) (L : Fin 32 → Fin 64 → Fin 64 → ℝ) (mu : Fin 32 → Fin 64 → ℝ)
    (X : Fin 32768 → Fin 64 → ℝ) : ℝ :=
  -Real.log (∑ n, ∑ k, Real.exp (logp C w L mu (X n) k))

/-- The precision matrix times a mean. -/
def pmu (P : Fin 64 → Fin 64 → ℝ) (mu : Fin 64 → ℝ) (d : Fin 64) : ℝ := ∑ e, P d e * mu e

/-- The quadratic form expanded around the mean, for a symmetric matrix. -/
theorem quad_expand {P : Fin 64 → Fin 64 → ℝ} (hP : ∀ r c, P r c = P c r) (x mu : Fin 64 → ℝ) :
    quad P (fun d => x d - mu d) = (∑ d, (∑ j, P j d * x j) * x d) - 2 * (∑ d, pmu P mu d * x d) + ∑ d, pmu P mu d * mu d := by
  have h1 : ∀ e, (x e - mu e) * ∑ d, P d e * (x d - mu d)
      = (∑ j, P j e * x j) * x e - (∑ j, P j e * x j) * mu e - pmu P mu e * x e + pmu P mu e * mu e := fun e => by
    have h2 : ∑ d, P d e * (x d - mu d) = (∑ j, P j e * x j) - pmu P mu e := by
      unfold pmu
      rw [← Finset.sum_sub_distrib]
      exact Finset.sum_congr rfl fun d _ => by rw [hP e d]; ring
    rw [h2]; ring
  have h3 : ∑ e, (∑ j, P j e * x j) * mu e = ∑ d, pmu P mu d * x d := by
    unfold pmu
    simp only [Finset.sum_mul]
    rw [Finset.sum_comm]
    exact Finset.sum_congr rfl fun d _ => Finset.sum_congr rfl fun e _ => by ring
  unfold quad
  simp only [h1, Finset.sum_add_distrib, Finset.sum_sub_distrib, h3]
  ring

/-- The weighted log-density in the expanded form: a linear part, an offset, a quadratic part. -/
theorem logp_expand (C : ℝ) (w : Fin 32 → ℝ) (L : Fin 32 → Fin 64 → Fin 64 → ℝ) (mu : Fin 32 → Fin 64 → ℝ) (x : Fin 64 → ℝ)
    (k : Fin 32) :
    (∑ d, pmu (prec (L k)) (mu k) d * x d)
      + (-(1 / 2) * (C + logdet (cov (L k)) 64) + logw w k - 1 / 2 * ∑ d, pmu (prec (L k)) (mu k) d * mu k d)
      + ∑ d, (∑ j, (-(1 / 2) * prec (L k) j d) * x j) * x d
      = logp C w L mu x k := by
  have h1 : ∑ d, (∑ j, (-(1 / 2) * prec (L k) j d) * x j) * x d = -(1 / 2) * ∑ d, (∑ j, prec (L k) j d * x j) * x d := by
    rw [Finset.mul_sum]
    refine Finset.sum_congr rfl fun d _ => ?_
    rw [← mul_assoc, Finset.mul_sum]
    exact congrArg (· * x d) (Finset.sum_congr rfl fun j _ => by ring)
  rw [h1, logp, quad_expand (prec_symm (L k))]
  ring

/-- A score less `M + log ∑ exp (w - M)` is its log-weight. -/
theorem logw_shift (w : Fin 32 → ℝ) (M : ℝ) (k : Fin 32) :
    w k - (M + Real.log (∑ j, Real.exp (w j - M))) = logw w k := by
  rw [lse_shift]; rfl

/-- A shifted score less `log ∑ exp (w - M)` is its log-weight. -/
theorem logw_shift' (w : Fin 32 → ℝ) (M : ℝ) (k : Fin 32) :
    w k - M - Real.log (∑ j, Real.exp (w j - M)) = logw w k := by
  rw [← logw_shift w M]; ring

/-- Point `n` of block `i`. -/
def row (i : Fin 8) (n : Fin 4096) : Fin 32768 := ⟨i.val * 4096 + n.val, by omega⟩

/-- A sum over all points, block by block. -/
theorem sum_row (f : Fin 32768 → ℝ) : ∑ n, f n = ∑ i, ∑ n, f (row i n) := by
  rw [← Fintype.sum_prod_type' (fun i n => f (row i n))]
  refine (Equiv.sum_comp (finProdFinEquiv (m := 8) (n := 4096)) f).symm.trans ?_
  refine Finset.sum_congr rfl fun x _ => congrArg f (Fin.ext ?_)
  show x.2.val + 4096 * x.1.val = x.1.val * 4096 + x.2.val
  omega

/-- The blocks' sums, rescaled to one offset, are the sum over all points. -/
theorem sum_blocks (x : Fin 32768 → Fin 32 → ℝ) (M : Fin 8 → ℝ) (W : ℝ) :
    ∑ i, (∑ n, ∑ k, Real.exp (x (row i n) k - M i)) * Real.exp (M i - W) = ∑ n, ∑ k, Real.exp (x n k - W) := by
  rw [sum_row]
  refine Finset.sum_congr rfl fun i _ => ?_
  rw [Finset.sum_mul]
  refine Finset.sum_congr rfl fun n _ => ?_
  rw [Finset.sum_mul]
  refine Finset.sum_congr rfl fun k _ => ?_
  rw [← Real.exp_add, sub_add_sub_cancel]

/-- A double sum of exponentials is positive. -/
theorem sum_exp_pos₂ (x : Fin 32768 → Fin 32 → ℝ) (W : ℝ) : 0 < ∑ n, ∑ k, Real.exp (x n k - W) :=
  Finset.sum_pos (fun n _ => sum_exp_pos fun k => x n k - W) ⟨0, Finset.mem_univ _⟩

/-- `W + log ∑ ∑ exp (x - W)` is `log ∑ ∑ exp x`. -/
theorem lse_shift₂ (x : Fin 32768 → Fin 32 → ℝ) (W : ℝ) :
    W + Real.log (∑ n, ∑ k, Real.exp (x n k - W)) = Real.log (∑ n, ∑ k, Real.exp (x n k)) := by
  have h := lse_shift (fun p : Fin 32768 × Fin 32 => x p.1 p.2) W
  rw [Fintype.sum_prod_type, Fintype.sum_prod_type] at h
  exact h

/-- The positions of a feature among the 128 rows and of a component's feature among the 2048 columns. -/
theorem lo_lt (j : Fin 64) : j.val < 128 := by omega
/-- A feature's position in the lower half of the 128 rows. -/
theorem hi_lt (j : Fin 64) : 64 + j.val < 128 := by omega
/-- A component's feature's position among the 2048 columns. -/
theorem col_lt (k : Fin 32) (d : Fin 64) : k.val * 64 + d.val < 2048 := by omega

end Cert.Math

end

end
-- ==== Proof.KernelIdeal.SweepValue.lean ====
/- One elimination trip of the preparation kernel read at an index, at exact arithmetic. -/
module

public import proofs.«01_k».proof.Proof.KernelIdeal.Loop
public import proofs.«01_k».proof.Proof.Math.Sweep
public import proofs.«01_k».proof.Proof.Math.Coe
public import Idealize.ShloMosaic.Lib.Pointwise
public import Idealize.ShloMosaic.Lib.WordCmp

@[expose] public section

set_option maxRecDepth 16384

noncomputable section

namespace Cert.KernelIdeal.Exec

open Cert.KernelIdeal Cert.KernelIdeal.Gen
open Idealize.ShloMosaic Idealize.ShloMosaic.TcCoe Idealize.SL.Sem

open Cert.Math

/-- The row counter the loop compares with. -/
abbrev rowIota : IVec S64x1x1 32 := iota .tc S64x1x1 32 [0] iota_S64x1x1_d0_w32
/-- The column counter the loop compares with. -/
abbrev colIota : IVec S1x1x64 32 := iota .tc S1x1x64 32 [2] iota_S1x1x64_d2_w32

/-- The loop makes 64 trips. -/
theorem trips_eq : k0_t1_loop.trips = 64 := by decide +kernel

/-- The trip's row of the matrix of component `kk`. -/
abbrev tr (k : Fin k0_t1_loop.trips) : Fin 64 := ⟨k.val, trips_eq ▸ k.isLt⟩

/-- A masked sum over 64 places whose mask holds at one place is the value there. -/
theorem sum_pick (k : Fin k0_t1_loop.trips) (f : Fin 64 → EReal) :
    ∑ x : Fin 64, Scalar.select (IntOp.cmpi CmpIPredicate.eq (BitVec.ofNat 32 x.val) (BitVec.ofNat 32 k.val)) (f x) 0
      = f (tr k) := by
  have hk : k.val < 64 := (tr k).isLt
  rw [Finset.sum_eq_single (tr k)]
  · rw [select_eq_word (by omega) (by omega), if_pos rfl]
  · intro x _ hx
    rw [select_eq_word (by omega) (by omega), if_neg (fun e => hx (Fin.ext e))]
  · intro h
    exact absurd (Finset.mem_univ _) h

/-- The pivot row of a trip. -/
theorem pay3_at (k : Fin k0_t1_loop.trips) (M : FVec Ideal S64x32x64 .f32) (kk : Fin 32) (c : Fin 64) :
    k0_pay3 rowIota 0#32 1#32 k M (ix3 0 kk c) = M (ix3 (tr k) kk c) := by
  pointwise [k0_pay3, k0_pay1, Scf.iv, iv_word]
  exact sum_pick k fun x => M (ix3 x kk c)

/-- The pivot of a trip. -/
theorem pay4_at (k : Fin k0_t1_loop.trips) (M : FVec Ideal S64x32x64 .f32) (kk : Fin 32) :
    k0_pay4 rowIota colIota 0#32 1#32 k M (ix3 0 kk 0) = M (ix3 (tr k) kk (tr k)) := by
  pointwise [k0_pay4, k0_pay2, Scf.iv, iv_word, pay3_at]
  exact sum_pick k fun x => M (ix3 (tr k) kk x)

/-- One trip is one step of the sweep in place, on real matrices with nonzero pivots. -/
theorem pay5_at (k : Fin k0_t1_loop.trips) (M : FVec Ideal S64x32x64 .f32) (S : Fin 32 → Fin 64 → Fin 64 → ℝ)
    (hM : ∀ r kk c, M (ix3 r kk c) = ((S kk r c : ℝ) : EReal)) (hp : ∀ kk, S kk (tr k) (tr k) ≠ 0)
    (r : Fin 64) (kk : Fin 32) (c : Fin 64) :
    k0_pay5 rowIota colIota 0#32 1#32 k M (ix3 r kk c) = ((sw (tr k) (S kk) r c : ℝ) : EReal) := by
  have hk : k.val < 64 := (tr k).isLt
  have hs := sum_pick k fun x => M (ix3 r kk x)
  pointwise [k0_pay5, k0_pay2, k0_pay1, Scf.iv, iv_word, pay3_at, pay4_at, hs]
  rw [select_eq_word (by omega) (by omega), select_eq_word (by omega) (by omega), select_eq_word (by omega) (by omega)]
  simp only [hM]
  have h1 : Ideal.div (1 : EReal) ((S kk (tr k) (tr k) : ℝ) : EReal) = ((1 / S kk (tr k) (tr k) : ℝ) : EReal) := by
    rw [← EReal.coe_one, div_coe_coe _ (hp kk)]
  rw [h1, ← EReal.coe_zero, ← EReal.coe_sub, ← EReal.coe_mul, ← EReal.coe_mul, ← EReal.coe_mul, ← EReal.coe_sub]
  have e1 : ∀ x : Fin 64, (x.val = k.val) = (x = tr k) := fun x => by rw [Fin.ext_iff]
  simp only [e1, sw]
  split_ifs <;> rfl

/-- One trip adds the logarithm of a positive pivot to the running log-determinant. -/
theorem pay6_at (k : Fin k0_t1_loop.trips) (M : FVec Ideal S64x32x64 .f32) (ld : FVec Ideal S1x32x1 .f32)
    (S : Fin 32 → Fin 64 → Fin 64 → ℝ) (l : Fin 32 → ℝ)
    (hM : ∀ r kk c, M (ix3 r kk c) = ((S kk r c : ℝ) : EReal)) (hl : ∀ kk, ld (ix3 0 kk 0) = ((l kk : ℝ) : EReal))
    (hp : ∀ kk, 0 < S kk (tr k) (tr k)) (kk : Fin 32) :
    k0_pay6 rowIota colIota 0#32 1#32 k M ld (ix3 0 kk 0) = ((l kk + Real.log (S kk (tr k) (tr k)) : ℝ) : EReal) := by
  pointwise [k0_pay6, pay4_at]
  rw [hM, hl, log_coe_pos (hp kk), EReal.coe_add]

/-- The log-determinant collected over the first `k` steps of the sweep. -/
def lds (S : Fin 64 → Fin 64 → ℝ) : ℕ → ℝ
  | 0 => 0
  | k + 1 => if h : k < 64 then lds S k + Real.log (sws S k ⟨k, h⟩ ⟨k, h⟩) else lds S k

/-- The 64 trips: the stack ends at the finished sweep of every component, the row at its collected
    log-determinant. -/
theorem sweep_fold (S : Fin 32 → Fin 64 → Fin 64 → ℝ) (hS : ∀ kk, PD (S kk))
    (M : FVec Ideal S64x32x64 .f32) (ld : FVec Ideal S1x32x1 .f32)
    (hM : ∀ r kk c, M (ix3 r kk c) = ((S kk r c : ℝ) : EReal)) (hl : ∀ kk, ld (ix3 0 kk 0) = 0) :
    (∀ r kk c, (Scf.fold (sweepStep rowIota colIota) (M, ld)).1 (ix3 r kk c) = ((sws (S kk) 64 r c : ℝ) : EReal))
    ∧ ∀ kk, (Scf.fold (sweepStep rowIota colIota) (M, ld)).2 (ix3 0 kk 0) = ((lds (S kk) 64 : ℝ) : EReal) := by
  rw [Scf.fold_eq]
  have h := foldl_inv k0_t1_loop.trips (sweepStep (F := Ideal) rowIota colIota)
    (fun k a => (∀ r kk c, a.1 (ix3 r kk c) = ((sws (S kk) k r c : ℝ) : EReal))
      ∧ ∀ kk, a.2 (ix3 0 kk 0) = ((lds (S kk) k : ℝ) : EReal)) (M, ld)
    ⟨hM, fun kk => (hl kk).trans EReal.coe_zero.symm⟩ (fun k a ha => by
      have hk : k.val < 64 := (tr k).isLt
      have hp : ∀ kk, 0 < sws (S kk) k.val (tr k) (tr k) := fun kk => sws_pivot_pos (hS kk) (tr k)
      refine ⟨fun r kk c => ?_, fun kk => ?_⟩
      · refine (pay5_at k a.1 (fun kk => sws (S kk) k.val) ha.1 (fun kk => (hp kk).ne') r kk c).trans ?_
        simp only [sws, dif_pos hk]
      · refine (pay6_at k a.1 a.2 (fun kk => sws (S kk) k.val) (fun kk => lds (S kk) k.val) ha.1 ha.2 hp kk).trans ?_
        simp only [lds, dif_pos hk])
  exact ⟨fun r kk c => (h.1 r kk c).trans (by rw [trips_eq]), fun kk => (h.2 kk).trans (by rw [trips_eq])⟩

end Cert.KernelIdeal.Exec

end

end
-- ==== Proof.KernelIdeal.Stack.lean ====
/- The preparation kernel's stack of matrices before the elimination, at exact arithmetic: component `kk` is
   `L Lᵀ + 1` for the lower triangle `L` of the `kk`-th argument matrix. -/
module

public import proofs.«01_k».proof.Proof.Math.Model
public import proofs.«01_k».proof.Proof.KernelIdeal.SweepValue
public import Idealize.ShloMosaic.Lib.Pipeline.ValueKit

@[expose] public section

set_option maxRecDepth 16384

noncomputable section

namespace Cert.KernelIdeal.Exec

open Cert.KernelIdeal Cert.KernelIdeal.Gen
open Idealize.ShloMosaic Idealize.ShloMosaic.TcCoe Idealize.SL.Sem
open Cert.Math

/-- The stack the elimination starts from, as the body computes it from the argument block. -/
def stack0 (x0 : Vec Ideal S32x64x64 .f32) : FVec Ideal S64x32x64 .f32 :=
  k0_pay46
    (k0_pay11 (View.ld x0 (Rect.unit ![2, 0, 0] ![1, 64, 64] inb_S32x64x64_S1x64x64_2_0_0)))
    (k0_pay12 (View.ld x0 (Rect.unit ![3, 0, 0] ![1, 64, 64] inb_S32x64x64_S1x64x64_3_0_0)))
    (k0_pay14 k0_pay8 (k0_pay13 (View.ld x0 (Rect.unit ![4, 0, 0] ![1, 64, 64] inb_S32x64x64_S1x64x64_4_0_0))))
    (k0_pay15 k0_pay7 k0_pay8 (View.ld x0 (Rect.unit ![5, 0, 0] ![1, 64, 64] inb_S32x64x64_S1x64x64_5_0_0)))
    (k0_pay16 k0_pay7 k0_pay8 (View.ld x0 (Rect.unit ![6, 0, 0] ![1, 64, 64] inb_S32x64x64_S1x64x64_6_0_0)))
    (k0_pay17 k0_pay7 k0_pay8 (View.ld x0 (Rect.unit ![7, 0, 0] ![1, 64, 64] inb_S32x64x64_S1x64x64_7_0_0)))
    (k0_pay18 k0_pay7 k0_pay8 (View.ld x0 (Rect.unit ![8, 0, 0] ![1, 64, 64] inb_S32x64x64_S1x64x64_8_0_0)))
    (k0_pay19 k0_pay7 k0_pay8 (View.ld x0 (Rect.unit ![9, 0, 0] ![1, 64, 64] inb_S32x64x64_S1x64x64_9_0_0)))
    (k0_pay20 k0_pay7 k0_pay8 (View.ld x0 (Rect.unit ![10, 0, 0] ![1, 64, 64] inb_S32x64x64_S1x64x64_10_0_0)))
    (k0_pay21 k0_pay7 k0_pay8 (View.ld x0 (Rect.unit ![11, 0, 0] ![1, 64, 64] inb_S32x64x64_S1x64x64_11_0_0)))
    (k0_pay22 k0_pay7 k0_pay8 (View.ld x0 (Rect.unit ![12, 0, 0] ![1, 64, 64] inb_S32x64x64_S1x64x64_12_0_0)))
    (k0_pay23 k0_pay7 k0_pay8 (View.ld x0 (Rect.unit ![13, 0, 0] ![1, 64, 64] inb_S32x64x64_S1x64x64_13_0_0)))
    (k0_pay24 k0_pay7 k0_pay8 (View.ld x0 (Rect.unit ![14, 0, 0] ![1, 64, 64] inb_S32x64x64_S1x64x64_14_0_0)))
    (k0_pay26 k0_pay8 (k0_pay25 k0_pay7 (View.ld x0 (Rect.unit ![15, 0, 0] ![1, 64, 64] inb_S32x64x64_S1x64x64_15_0_0))) (constant S64x64 FTy.f32 0#32))
    (k0_pay27 k0_pay7 k0_pay8 (View.ld x0 (Rect.unit ![16, 0, 0] ![1, 64, 64] inb_S32x64x64_S1x64x64_16_0_0)))
    (k0_pay28 k0_pay7 k0_pay8 (View.ld x0 (Rect.unit ![17, 0, 0] ![1, 64, 64] inb_S32x64x64_S1x64x64_17_0_0)))
    (k0_pay29 k0_pay7 k0_pay8 (View.ld x0 (Rect.unit ![18, 0, 0] ![1, 64, 64] inb_S32x64x64_S1x64x64_18_0_0)))
    (k0_pay30 k0_pay7 k0_pay8 (View.ld x0 (Rect.unit ![19, 0, 0] ![1, 64, 64] inb_S32x64x64_S1x64x64_19_0_0)))
    (k0_pay31 k0_pay7 k0_pay8 (View.ld x0 (Rect.unit ![20, 0, 0] ![1, 64, 64] inb_S32x64x64_S1x64x64_20_0_0)))
    (k0_pay32 k0_pay7 k0_pay8 (View.ld x0 (Rect.unit ![21, 0, 0] ![1, 64, 64] inb_S32x64x64_S1x64x64_21_0_0)))
    (k0_pay33 k0_pay7 k0_pay8 (View.ld x0 (Rect.unit ![22, 0, 0] ![1, 64, 64] inb_S32x64x64_S1x64x64_22_0_0)))
    (k0_pay34 k0_pay7 k0_pay8 (View.ld x0 (Rect.unit ![23, 0, 0] ![1, 64, 64] inb_S32x64x64_S1x64x64_23_0_0)))
    (k0_pay35 k0_pay7 k0_pay8 (View.ld x0 (Rect.unit ![24, 0, 0] ![1, 64, 64] inb_S32x64x64_S1x64x64_24_0_0)))
    (k0_pay36 k0_pay7 k0_pay8 (View.ld x0 (Rect.unit ![25, 0, 0] ![1, 64, 64] inb_S32x64x64_S1x64x64_25_0_0)))
    (k0_pay38 k0_pay8 (k0_pay37 k0_pay7 (View.ld x0 (Rect.unit ![26, 0, 0] ![1, 64, 64] inb_S32x64x64_S1x64x64_26_0_0))))
    (k0_pay39 k0_pay7 k0_pay8 (View.ld x0 (Rect.unit ![27, 0, 0] ![1, 64, 64] inb_S32x64x64_S1x64x64_27_0_0)))
    (k0_pay40 k0_pay7 k0_pay8 (View.ld x0 (Rect.unit ![28, 0, 0] ![1, 64, 64] inb_S32x64x64_S1x64x64_28_0_0)))
    (k0_pay41 k0_pay7 k0_pay8 (View.ld x0 (Rect.unit ![29, 0, 0] ![1, 64, 64] inb_S32x64x64_S1x64x64_29_0_0)))
    (k0_pay42 k0_pay7 k0_pay8 (View.ld x0 (Rect.unit ![30, 0, 0] ![1, 64, 64] inb_S32x64x64_S1x64x64_30_0_0)))
    (k0_pay43 k0_pay7 k0_pay8 (View.ld x0 (Rect.unit ![31, 0, 0] ![1, 64, 64] inb_S32x64x64_S1x64x64_31_0_0)))
    (k0_pay44 (k0_pay9 (View.ld x0 (Rect.unit ![0, 0, 0] ![1, 64, 64] inb_S32x64x64_S1x64x64_0_0_0))))
    (k0_pay45 (k0_pay10 (View.ld x0 (Rect.unit ![1, 0, 0] ![1, 64, 64] inb_S32x64x64_S1x64x64_1_0_0))))

/-- The `kk`-th matrix of the argument block. -/
def slab (x0 : Vec Ideal S32x64x64 .f32) (kk : Fin 32) : Vec Ideal S1x64x64 .f32 := fun y => x0 (ix3 kk (y 1) (y 2))

/-- The stack, every component spelt by the first one's payload. -/
def stack1 (x0 : Vec Ideal S32x64x64 .f32) : FVec Ideal S64x32x64 .f32 :=
  k0_pay46
    (k0_pay9 (slab x0 2))
    (k0_pay9 (slab x0 3))
    (k0_pay9 (slab x0 4))
    (k0_pay9 (slab x0 5))
    (k0_pay9 (slab x0 6))
    (k0_pay9 (slab x0 7))
    (k0_pay9 (slab x0 8))
    (k0_pay9 (slab x0 9))
    (k0_pay9 (slab x0 10))
    (k0_pay9 (slab x0 11))
    (k0_pay9 (slab x0 12))
    (k0_pay9 (slab x0 13))
    (k0_pay9 (slab x0 14))
    (k0_pay9 (slab x0 15))
    (k0_pay9 (slab x0 16))
    (k0_pay9 (slab x0 17))
    (k0_pay9 (slab x0 18))
    (k0_pay9 (slab x0 19))
    (k0_pay9 (slab x0 20))
    (k0_pay9 (slab x0 21))
    (k0_pay9 (slab x0 22))
    (k0_pay9 (slab x0 23))
    (k0_pay9 (slab x0 24))
    (k0_pay9 (slab x0 25))
    (k0_pay9 (slab x0 26))
    (k0_pay9 (slab x0 27))
    (k0_pay9 (slab x0 28))
    (k0_pay9 (slab x0 29))
    (k0_pay9 (slab x0 30))
    (k0_pay9 (slab x0 31))
    (k0_pay44 (k0_pay9 (slab x0 0)))
    (k0_pay45 (k0_pay9 (slab x0 1)))

/-- A load of one matrix of the argument block. -/
theorem ld_slab (x0 : Vec Ideal S32x64x64 .f32) (kk : Fin 32) (inb : ∀ a, (![kk.val, 0, 0] : Fin 3 → ℕ) a + (![1, 64, 64] : Fin 3 → ℕ) a ≤ S32x64x64.size a) :
    (View.ld x0 (Rect.unit ![kk.val, 0, 0] ![1, 64, 64] inb) : Vec Ideal S1x64x64 .f32) = slab x0 kk := by
  funext y
  pointwise [slab]

/-- The load of matrix 0 is the argument block's matrix 0. -/
theorem ld_0 (x0 : Vec Ideal S32x64x64 .f32) :
    View.ld x0 (Rect.unit ![0, 0, 0] ![1, 64, 64] inb_S32x64x64_S1x64x64_0_0_0) = slab x0 0 := ld_slab x0 0 _

/-- The load of matrix 1 is the argument block's matrix 1. -/
theorem ld_1 (x0 : Vec Ideal S32x64x64 .f32) :
    View.ld x0 (Rect.unit ![1, 0, 0] ![1, 64, 64] inb_S32x64x64_S1x64x64_1_0_0) = slab x0 1 := ld_slab x0 1 _

/-- The load of matrix 2 is the argument block's matrix 2. -/
theorem ld_2 (x0 : Vec Ideal S32x64x64 .f32) :
    View.ld x0 (Rect.unit ![2, 0, 0] ![1, 64, 64] inb_S32x64x64_S1x64x64_2_0_0) = slab x0 2 := ld_slab x0 2 _

/-- The load of matrix 3 is the argument block's matrix 3. -/
theorem ld_3 (x0 : Vec Ideal S32x64x64 .f32) :
    View.ld x0 (Rect.unit ![3, 0, 0] ![1, 64, 64] inb_S32x64x64_S1x64x64_3_0_0) = slab x0 3 := ld_slab x0 3 _

/-- The load of matrix 4 is the argument block's matrix 4. -/
theorem ld_4 (x0 : Vec Ideal S32x64x64 .f32) :
    View.ld x0 (Rect.unit ![4, 0, 0] ![1, 64, 64] inb_S32x64x64_S1x64x64_4_0_0) = slab x0 4 := ld_slab x0 4 _

/-- The load of matrix 5 is the argument block's matrix 5. -/
theorem ld_5 (x0 : Vec Ideal S32x64x64 .f32) :
    View.ld x0 (Rect.unit ![5, 0, 0] ![1, 64, 64] inb_S32x64x64_S1x64x64_5_0_0) = slab x0 5 := ld_slab x0 5 _

/-- The load of matrix 6 is the argument block's matrix 6. -/
theorem ld_6 (x0 : Vec Ideal S32x64x64 .f32) :
    View.ld x0 (Rect.unit ![6, 0, 0] ![1, 64, 64] inb_S32x64x64_S1x64x64_6_0_0) = slab x0 6 := ld_slab x0 6 _

/-- The load of matrix 7 is the argument block's matrix 7. -/
theorem ld_7 (x0 : Vec Ideal S32x64x64 .f32) :
    View.ld x0 (Rect.unit ![7, 0, 0] ![1, 64, 64] inb_S32x64x64_S1x64x64_7_0_0) = slab x0 7 := ld_slab x0 7 _

/-- The load of matrix 8 is the argument block's matrix 8. -/
theorem ld_8 (x0 : Vec Ideal S32x64x64 .f32) :
    View.ld x0 (Rect.unit ![8, 0, 0] ![1, 64, 64] inb_S32x64x64_S1x64x64_8_0_0) = slab x0 8 := ld_slab x0 8 _

/-- The load of matrix 9 is the argument block's matrix 9. -/
theorem ld_9 (x0 : Vec Ideal S32x64x64 .f32) :
    View.ld x0 (Rect.unit ![9, 0, 0] ![1, 64, 64] inb_S32x64x64_S1x64x64_9_0_0) = slab x0 9 := ld_slab x0 9 _

/-- The load of matrix 10 is the argument block's matrix 10. -/
theorem ld_10 (x0 : Vec Ideal S32x64x64 .f32) :
    View.ld x0 (Rect.unit ![10, 0, 0] ![1, 64, 64] inb_S32x64x64_S1x64x64_10_0_0) = slab x0 10 := ld_slab x0 10 _

/-- The load of matrix 11 is the argument block's matrix 11. -/
theorem ld_11 (x0 : Vec Ideal S32x64x64 .f32) :
    View.ld x0 (Rect.unit ![11, 0, 0] ![1, 64, 64] inb_S32x64x64_S1x64x64_11_0_0) = slab x0 11 := ld_slab x0 11 _

/-- The load of matrix 12 is the argument block's matrix 12. -/
theorem ld_12 (x0 : Vec Ideal S32x64x64 .f32) :
    View.ld x0 (Rect.unit ![12, 0, 0] ![1, 64, 64] inb_S32x64x64_S1x64x64_12_0_0) = slab x0 12 := ld_slab x0 12 _

/-- The load of matrix 13 is the argument block's matrix 13. -/
theorem ld_13 (x0 : Vec Ideal S32x64x64 .f32) :
    View.ld x0 (Rect.unit ![13, 0, 0] ![1, 64, 64] inb_S32x64x64_S1x64x64_13_0_0) = slab x0 13 := ld_slab x0 13 _

/-- The load of matrix 14 is the argument block's matrix 14. -/
theorem ld_14 (x0 : Vec Ideal S32x64x64 .f32) :
    View.ld x0 (Rect.unit ![14, 0, 0] ![1, 64, 64] inb_S32x64x64_S1x64x64_14_0_0) = slab x0 14 := ld_slab x0 14 _

/-- The load of matrix 15 is the argument block's matrix 15. -/
theorem ld_15 (x0 : Vec Ideal S32x64x64 .f32) :
    View.ld x0 (Rect.unit ![15, 0, 0] ![1, 64, 64] inb_S32x64x64_S1x64x64_15_0_0) = slab x0 15 := ld_slab x0 15 _

/-- The load of matrix 16 is the argument block's matrix 16. -/
theorem ld_16 (x0 : Vec Ideal S32x64x64 .f32) :
    View.ld x0 (Rect.unit ![16, 0, 0] ![1, 64, 64] inb_S32x64x64_S1x64x64_16_0_0) = slab x0 16 := ld_slab x0 16 _

/-- The load of matrix 17 is the argument block's matrix 17. -/
theorem ld_17 (x0 : Vec Ideal S32x64x64 .f32) :
    View.ld x0 (Rect.unit ![17, 0, 0] ![1, 64, 64] inb_S32x64x64_S1x64x64_17_0_0) = slab x0 17 := ld_slab x0 17 _

/-- The load of matrix 18 is the argument block's matrix 18. -/
theorem ld_18 (x0 : Vec Ideal S32x64x64 .f32) :
    View.ld x0 (Rect.unit ![18, 0, 0] ![1, 64, 64] inb_S32x64x64_S1x64x64_18_0_0) = slab x0 18 := ld_slab x0 18 _

/-- The load of matrix 19 is the argument block's matrix 19. -/
theorem ld_19 (x0 : Vec Ideal S32x64x64 .f32) :
    View.ld x0 (Rect.unit ![19, 0, 0] ![1, 64, 64] inb_S32x64x64_S1x64x64_19_0_0) = slab x0 19 := ld_slab x0 19 _

/-- The load of matrix 20 is the argument block's matrix 20. -/
theorem ld_20 (x0 : Vec Ideal S32x64x64 .f32) :
    View.ld x0 (Rect.unit ![20, 0, 0] ![1, 64, 64] inb_S32x64x64_S1x64x64_20_0_0) = slab x0 20 := ld_slab x0 20 _

/-- The load of matrix 21 is the argument block's matrix 21. -/
theorem ld_21 (x0 : Vec Ideal S32x64x64 .f32) :
    View.ld x0 (Rect.unit ![21, 0, 0] ![1, 64, 64] inb_S32x64x64_S1x64x64_21_0_0) = slab x0 21 := ld_slab x0 21 _

/-- The load of matrix 22 is the argument block's matrix 22. -/
theorem ld_22 (x0 : Vec Ideal S32x64x64 .f32) :
    View.ld x0 (Rect.unit ![22, 0, 0] ![1, 64, 64] inb_S32x64x64_S1x64x64_22_0_0) = slab x0 22 := ld_slab x0 22 _

/-- The load of matrix 23 is the argument block's matrix 23. -/
theorem ld_23 (x0 : Vec Ideal S32x64x64 .f32) :
    View.ld x0 (Rect.unit ![23, 0, 0] ![1, 64, 64] inb_S32x64x64_S1x64x64_23_0_0) = slab x0 23 := ld_slab x0 23 _

/-- The load of matrix 24 is the argument block's matrix 24. -/
theorem ld_24 (x0 : Vec Ideal S32x64x64 .f32) :
    View.ld x0 (Rect.unit ![24, 0, 0] ![1, 64, 64] inb_S32x64x64_S1x64x64_24_0_0) = slab x0 24 := ld_slab x0 24 _

/-- The load of matrix 25 is the argument block's matrix 25. -/
theorem ld_25 (x0 : Vec Ideal S32x64x64 .f32) :
    View.ld x0 (Rect.unit ![25, 0, 0] ![1, 64, 64] inb_S32x64x64_S1x64x64_25_0_0) = slab x0 25 := ld_slab x0 25 _

/-- The load of matrix 26 is the argument block's matrix 26. -/
theorem ld_26 (x0 : Vec Ideal S32x64x64 .f32) :
    View.ld x0 (Rect.unit ![26, 0, 0] ![1, 64, 64] inb_S32x64x64_S1x64x64_26_0_0) = slab x0 26 := ld_slab x0 26 _

/-- The load of matrix 27 is the argument block's matrix 27. -/
theorem ld_27 (x0 : Vec Ideal S32x64x64 .f32) :
    View.ld x0 (Rect.unit ![27, 0, 0] ![1, 64, 64] inb_S32x64x64_S1x64x64_27_0_0) = slab x0 27 := ld_slab x0 27 _

/-- The load of matrix 28 is the argument block's matrix 28. -/
theorem ld_28 (x0 : Vec Ideal S32x64x64 .f32) :
    View.ld x0 (Rect.unit ![28, 0, 0] ![1, 64, 64] inb_S32x64x64_S1x64x64_28_0_0) = slab x0 28 := ld_slab x0 28 _

/-- The load of matrix 29 is the argument block's matrix 29. -/
theorem ld_29 (x0 : Vec Ideal S32x64x64 .f32) :
    View.ld x0 (Rect.unit ![29, 0, 0] ![1, 64, 64] inb_S32x64x64_S1x64x64_29_0_0) = slab x0 29 := ld_slab x0 29 _

/-- The load of matrix 30 is the argument block's matrix 30. -/
theorem ld_30 (x0 : Vec Ideal S32x64x64 .f32) :
    View.ld x0 (Rect.unit ![30, 0, 0] ![1, 64, 64] inb_S32x64x64_S1x64x64_30_0_0) = slab x0 30 := ld_slab x0 30 _

/-- The load of matrix 31 is the argument block's matrix 31. -/
theorem ld_31 (x0 : Vec Ideal S32x64x64 .f32) :
    View.ld x0 (Rect.unit ![31, 0, 0] ![1, 64, 64] inb_S32x64x64_S1x64x64_31_0_0) = slab x0 31 := ld_slab x0 31 _

/-- The two spellings of the stack agree. -/
theorem stack0_eq (x0 : Vec Ideal S32x64x64 .f32) : stack0 x0 = stack1 x0 := by
  unfold stack0 stack1
  rw [ld_0, ld_1, ld_2, ld_3, ld_4, ld_5, ld_6, ld_7, ld_8, ld_9, ld_10, ld_11, ld_12, ld_13, ld_14, ld_15, ld_16, ld_17, ld_18, ld_19, ld_20, ld_21, ld_22, ld_23, ld_24, ld_25, ld_26, ld_27, ld_28, ld_29, ld_30, ld_31]
  rfl

/-- One component's payload at an index. -/
theorem pay9_at (v : Vec Ideal S1x64x64 .f32) (L : Fin 64 → Fin 64 → ℝ)
    (hv : ∀ r e, v (ix3 0 r e) = ((L r e : ℝ) : EReal)) (r c : Fin 64) :
    k0_pay9 v (ix2 r c) = ((cov L r c : ℝ) : EReal) := by
  pointwise [k0_pay9, k0_pay7, k0_pay8]
  rw [eye_word (by omega) (by omega)]
  have h : ∀ x : Fin 64, Scalar.select (IntOp.cmpi .sge (BitVec.ofNat 32 c.val) (BitVec.ofNat 32 x.val))
      (Scalar.select (IntOp.cmpi .sge (BitVec.ofNat 32 r.val) (BitVec.ofNat 32 x.val)) (v (ix3 0 r x) * v (ix3 0 c x)) 0) 0
      = ((lower L r x * lower L c x : ℝ) : EReal) := fun x => by
    rw [select_ge_word (by omega) (by omega), select_ge_word (by omega) (by omega), hv, hv]
    unfold lower
    by_cases h1 : x.val ≤ r.val <;> by_cases h2 : x.val ≤ c.val <;> simp [h1, h2]
  simp only [h, coe_sum, ← EReal.coe_add, cov, Fin.ext_iff]

/-- The stack before the elimination, at an index. -/
theorem stack0_at (x0 : Vec Ideal S32x64x64 .f32) (r : Fin 64) (kk : Fin 32) (c : Fin 64) :
    stack0 x0 (ix3 r kk c) = k0_pay9 (slab x0 kk) (ix2 r c) := by
  rw [stack0_eq]
  pointwise [stack1, k0_pay46, k0_pay44, k0_pay45]
  fin_cases kk <;> rfl

end Cert.KernelIdeal.Exec

end

end
-- ==== Proof.KernelIdeal.PrepValue.lean ====
/- What the preparation kernel leaves in its two output blocks, at exact arithmetic. -/
module

public import proofs.«01_k».proof.Proof.KernelIdeal.Prep
public import proofs.«01_k».proof.Proof.KernelIdeal.Stack
public import Idealize.ShloMosaic.Lib.Pipeline.ValueKit

@[expose] public section

set_option maxRecDepth 16384

noncomputable section

namespace Cert.KernelIdeal.Exec

open Cert.KernelIdeal Cert.KernelIdeal.Gen
open Idealize.ShloMosaic Idealize.ShloMosaic.TcCoe Idealize.SL.Sem
open Cert.Math

/-- The elimination's final state: the swept stack and the log-determinants. -/
def prep (x0 : Vec Ideal S32x64x64 .f32) : FVec Ideal S64x32x64 .f32 × FVec Ideal S1x32x1 .f32 :=
  Scf.fold (sweepStep rowIota colIota) (stack0 x0, k0_pay47)

/-- The first output block, as the payload stored. -/
theorem out0_3_eq (c : Dev nD) (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole)
    (arg3 : Memref sig .tc .vmem S128x2048 .f32) (harg3 : arg3.IsWhole) (arg4 : Memref sig .tc .vmem S128x32 .f32) (harg4 : arg4.IsWhole)
    (x0 : Vec Ideal S32x64x64 .f32) (x1 : Vec Ideal S32x64 .f32) (x2 : Vec Ideal S1x32 .f32) (y : S128x2048.Idx) :
    out0_A_3 c arg0 harg0 arg1 harg1 arg2 harg2 arg3 harg3 arg4 harg4 x0 x1 x2 y = k0_pay53 (k0_pay48 (prep x0).1) y := by
  frame_out
  rfl

/-- The second output block, as the payload stored. -/
theorem out0_4_eq (c : Dev nD) (arg0 : Memref sig .tc .vmem S32x64x64 .f32) (harg0 : arg0.IsWhole) (arg1 : Memref sig .tc .vmem S32x64 .f32) (harg1 : arg1.IsWhole) (arg2 : Memref sig .tc .vmem S1x32 .f32) (harg2 : arg2.IsWhole)
    (arg3 : Memref sig .tc .vmem S128x2048 .f32) (harg3 : arg3.IsWhole) (arg4 : Memref sig .tc .vmem S128x32 .f32) (harg4 : arg4.IsWhole)
    (x0 : Vec Ideal S32x64x64 .f32) (x1 : Vec Ideal S32x64 .f32) (x2 : Vec Ideal S1x32 .f32) (y : S128x32.Idx) :
    out0_A_4 c arg0 harg0 arg1 harg1 arg2 harg2 arg3 harg3 arg4 harg4 x0 x1 x2 y
      = k0_pay54 (k0_pay49 (prep x0).2) (k0_pay50 (prep x0).1 x1) (k0_pay51 (prep x0).1 x1 x1) k0_pay52 (FloatOps.ofBits .f32 0#32) x2 y := by
  frame_out
  rfl

/-- The sweep's running logarithms are those of the elimination. -/
theorem lds_eq {S : Fin 64 → Fin 64 → ℝ} (hS : PD S) (k : ℕ) : lds S k = logdet S k := by
  induction k with
  | zero => rfl
  | succ k ih =>
    unfold lds logdet
    by_cases h : k < 64
    · rw [dif_pos h, dif_pos h, ih, sws_pivot hS ⟨k, h⟩]
    · rw [dif_neg h, dif_neg h, ih]

section

variable (x0 : Vec Ideal S32x64x64 .f32) (L : Fin 32 → Fin 64 → Fin 64 → ℝ)
  (h0 : ∀ kk r e, x0 (ix3 kk r e) = ((L kk r e : ℝ) : EReal))

include h0

/-- The stack starts as the covariances. -/
theorem stack0_real (r : Fin 64) (kk : Fin 32) (c : Fin 64) : stack0 x0 (ix3 r kk c) = ((cov (L kk) r c : ℝ) : EReal) := by
  rw [stack0_at]
  exact pay9_at _ (L kk) (fun r e => h0 kk r e) r c

/-- The swept stack holds the precision matrices. -/
theorem prep_prec (r : Fin 64) (kk : Fin 32) (c : Fin 64) : (prep x0).1 (ix3 r kk c) = ((prec (L kk) r c : ℝ) : EReal) := by
  have h := (sweep_fold (fun kk => cov (L kk)) (fun kk => cov_pd (L kk)) (stack0 x0) k0_pay47 (stack0_real x0 L h0)
    (fun kk => by pointwise [k0_pay47])).1 r kk c
  rw [sws_final (cov_pd (L kk))] at h
  exact h

/-- The log-determinants. -/
theorem prep_logdet (kk : Fin 32) : (prep x0).2 (ix3 0 kk 0) = ((logdet (cov (L kk)) 64 : ℝ) : EReal) := by
  have h := (sweep_fold (fun kk => cov (L kk)) (fun kk => cov_pd (L kk)) (stack0 x0) k0_pay47 (stack0_real x0 L h0)
    (fun kk => by pointwise [k0_pay47])).2 kk
  rw [lds_eq (cov_pd (L kk))] at h
  exact h

/-- The first output's upper half: the precision matrices times `-1/2`. -/
theorem at_upper (j : Fin 64) (k : Fin 32) (d : Fin 64) :
    k0_pay53 (k0_pay48 (prep x0).1) (ix2 (⟨j.val, by omega⟩ : Fin 128) (⟨k.val * 64 + d.val, by omega⟩ : Fin 2048))
      = ((-(1 / 2) * prec (L k) j d : ℝ) : EReal) := by
  have h := prep_prec x0 L h0 j k d
  revert h
  generalize (prep x0).1 = M
  intro h
  pointwise [k0_pay53, k0_pay48]
  rw [h, ofBits_neg_half, EReal.coe_mul]

omit h0 in
/-- The first output's lower half is zero. -/
theorem at_lower (j : Fin 64) (k : Fin 32) (d : Fin 64) :
    k0_pay53 (k0_pay48 (prep x0).1) (ix2 (⟨64 + j.val, by omega⟩ : Fin 128) (⟨k.val * 64 + d.val, by omega⟩ : Fin 2048)) = 0 := by
  generalize (prep x0).1 = M
  pointwise [k0_pay53, k0_pay48]
  all_goals rw [dif_neg (by omega)]

variable (x1 : Vec Ideal S32x64 .f32) (mu : Fin 32 → Fin 64 → ℝ) (h1 : ∀ k d, x1 (ix2 k d) = ((mu k d : ℝ) : EReal))
  (x2 : Vec Ideal S1x32 .f32) (w : Fin 32 → ℝ) (h2 : ∀ k, x2 (ix2 0 k) = ((w k : ℝ) : EReal))

include h1

/-- The second output's first rows: each precision matrix times its mean. -/
theorem bb_rows (j : Fin 64) (k : Fin 32) :
    k0_pay54 (k0_pay49 (prep x0).2) (k0_pay50 (prep x0).1 x1) (k0_pay51 (prep x0).1 x1 x1) k0_pay52 (FloatOps.ofBits .f32 0#32) x2
        (ix2 (⟨j.val, by omega⟩ : Fin 128) k)
      = ((pmu (prec (L k)) (mu k) j : ℝ) : EReal) := by
  have h := prep_prec x0 L h0
  revert h
  generalize (prep x0).1 = M
  generalize (prep x0).2 = ld
  intro h
  pointwise [k0_pay54, k0_pay49, k0_pay50, k0_pay51, k0_pay52]
  simp only [h, h1, ← EReal.coe_mul, coe_sum]
  rfl

include h2

/-- The second output's row 64: each component's offset. -/
theorem bb_offset (k : Fin 32) :
    k0_pay54 (k0_pay49 (prep x0).2) (k0_pay50 (prep x0).1 x1) (k0_pay51 (prep x0).1 x1 x1) k0_pay52 (FloatOps.ofBits .f32 0#32) x2
        (ix2 (64 : Fin 128) k)
      = ((-(1 / 2) * (cst + logdet (cov (L k)) 64) + logw w k - 1 / 2 * ∑ d, pmu (prec (L k)) (mu k) d * mu k d : ℝ) : EReal) := by
  have h := prep_prec x0 L h0
  have hl := prep_logdet x0 L h0
  revert h hl
  generalize (prep x0).1 = M
  generalize (prep x0).2 = ld
  intro h hl
  obtain ⟨W, hW⟩ := coe_fold_max (fun x : Fin 1 × Fin 32 => w x.2)
  pointwise [k0_pay54, k0_pay49, k0_pay50, k0_pay51, k0_pay52]
  have hfold : Finset.fold max (Ideal.ofBits FTy.f32 4286578688#32) (fun x : Fin 1 × Fin 32 => x2 (ix2 0 x.2)) Finset.univ = ((W : ℝ) : EReal) := by
    simp only [ofBits_neg_inf, h2]
    exact hW
  have hdiag : (∑ x : Fin 32, Scalar.select (IntOp.cmpi CmpIPredicate.eq (BitVec.ofNat 32 x.val) (BitVec.ofNat 32 k.val))
      (∑ y : Fin 64, (∑ z : Fin 64, M (ix3 y x z) * x1 (ix2 x z)) * x1 (ix2 k y)) 0)
      = ((∑ d, pmu (prec (L k)) (mu k) d * mu k d : ℝ) : EReal) := by
    simp only [select_eq_word (Nat.lt_trans (Fin.isLt _) (by decide : 32 < 2 ^ 32)) (Nat.lt_trans k.isLt (by decide : 32 < 2 ^ 32)),
      ← Fin.ext_iff, Finset.sum_ite_eq', Finset.mem_univ, if_true, h, h1, ← EReal.coe_mul, coe_sum]
    rfl
  rw [hdiag, hfold, hl]
  simp only [h2, ← EReal.coe_sub, Ideal.exp_coe, coe_sum, Finset.univ_unique, Finset.sum_singleton]
  rw [show Scalar.log (F := Ideal) ((∑ x, Real.exp (w x - W) : ℝ) : EReal) = ((Real.log (∑ x, Real.exp (w x - W)) : ℝ) : EReal) from
    log_coe_pos (sum_exp_pos _)]
  rw [← EReal.coe_add, ← EReal.coe_sub, logw_shift, ofBits_neg_half, ofBits_half, ofBits_cst]
  simp only [← EReal.coe_mul, ← EReal.coe_add, ← EReal.coe_sub]

end

end Cert.KernelIdeal.Exec

end

end
-- ==== Proof.KernelIdeal.PrepArrays.lean ====
/- The preparation kernel's two output arrays after its only grid point. -/
module

public import proofs.«01_k».proof.Proof.KernelIdeal.PrepValue
public import Idealize.ShloMosaic.Lib.Pipeline.ValueKit

@[expose] public section

set_option maxRecDepth 16384

noncomputable section

namespace Cert.KernelIdeal.Exec

open Cert.KernelIdeal Cert.KernelIdeal.Gen
open Idealize.ShloMosaic Idealize.ShloMosaic.TcCoe Idealize.SL.Sem
open Idealize.ShloMosaic.Pipeline (Dat)
open Cert.Math

variable (V : (c : Dev nD) → (b : Ref sig .tc) → Buf (Elt Ideal) ((c : Thread nD τ).loc b))

/-- Every window's block index at the only point. -/
theorem idx0 : ∀ t : Fin cfg0.N, win0_0.index t = ![0, 0, 0] ∧ win0_1.index t = ![0, 0] ∧ win0_2.index t = ![0, 0]
    ∧ win0_3.index t = ![0, 0] ∧ win0_4.index t = ![0, 0] :=
  (by decide +kernel : ∀ t : Fin grid0.N, _)

/-- The input blocks are the whole arrays. -/
theorem iblk0_0 (c : Dev nD) (t : Fin cfg0.N) : iblk0 V c 0 t = V c main_arg2 := by blk_ext! [iblk0, idx0 t]
/-- The first call's block of means is the whole array. -/
theorem iblk0_1 (c : Dev nD) (t : Fin cfg0.N) : iblk0 V c 1 t = V c main_arg1 := by blk_ext! [iblk0, idx0 t]
/-- The first call's block of scores is the whole array. -/
theorem iblk0_2 (c : Dev nD) (t : Fin cfg0.N) : iblk0 V c 2 t = V c main_v0 := by blk_ext! [iblk0, idx0 t]

/-- The first output array. -/
theorem arr0_3 (c : Dev nD) : (dat0 V c).arrAt 3 cfg0.N
    = fun j : S128x2048.Idx => k0_pay53 (k0_pay48 (prep (V c main_arg2)).1) j := by
  refine (dat0 V c).arrAt_eq_of_after_last 3 t0_0 (by decide +kernel) _ fun j => ?_
  blk_simp
  rw [after0_3]
  unfold outsAt0
  dsimp only
  rw [iblk0_0, iblk0_1, iblk0_2, out0_3_eq]

/-- The second output array. -/
theorem arr0_4 (c : Dev nD) : (dat0 V c).arrAt 4 cfg0.N
    = fun j : S128x32.Idx => k0_pay54 (k0_pay49 (prep (V c main_arg2)).2) (k0_pay50 (prep (V c main_arg2)).1 (V c main_arg1))
        (k0_pay51 (prep (V c main_arg2)).1 (V c main_arg1) (V c main_arg1)) k0_pay52 (FloatOps.ofBits .f32 0#32) (V c main_v0) j := by
  refine (dat0 V c).arrAt_eq_of_after_last 4 t0_0 (by decide +kernel) _ fun j => ?_
  blk_simp
  rw [after0_4]
  unfold outsAt0
  dsimp only
  rw [iblk0_0, iblk0_1, iblk0_2, out0_4_eq]

end Cert.KernelIdeal.Exec

end

end
-- ==== Proof.KernelIdeal.MahaValue.lean ====
/- What the scoring kernel leaves in its two output blocks, at exact arithmetic. -/
module

public import proofs.«01_k».proof.Proof.KernelIdeal.Maha
public import proofs.«01_k».proof.Proof.Math.Model
public import Idealize.ShloMosaic.Lib.Pipeline.ValueKit

@[expose] public section

set_option maxRecDepth 16384

noncomputable section

namespace Cert.KernelIdeal.Exec

open Cert.KernelIdeal Cert.KernelIdeal.Gen
open Idealize.ShloMosaic Idealize.ShloMosaic.TcCoe Idealize.SL.Sem
open Cert.Math

/-- The first output block, as the payloads stored. -/
theorem out1_3_eq (c : Dev nD) (i : grid1.Coords) (arg2 : Memref sig .tc .vmem S4096x64 .f32) (harg2 : arg2.IsWhole) (arg3 : Memref sig .tc .vmem S128x2048 .f32) (harg3 : arg3.IsWhole) (arg4 : Memref sig .tc .vmem S128x32 .f32) (harg4 : arg4.IsWhole)
    (arg5 : Memref sig .tc .vmem S1x1x4096 .f32) (harg5 : arg5.IsWhole) (arg6 : Memref sig .tc .vmem S1x1x4096 .f32) (harg6 : arg6.IsWhole) (hc0 : cond1_0 i) (hc1 : ¬cond1_1 i) (hc2 : cond1_2 i)
    (x0 : Vec Ideal S4096x64 .f32) (x1 : Vec Ideal S128x2048 .f32) (x2 : Vec Ideal S128x32 .f32) (y : S1x1x4096.Idx) :
    out1_A_3 c i arg2 harg2 arg3 harg3 arg4 harg4 arg5 harg5 arg6 harg6 hc0 hc1 hc2 x0 x1 x2 y = k1_pay7 (k1_pay12 x0 x1 x2) y := by
  frame_out

/-- The second output block, as the payloads stored. -/
theorem out1_4_eq (c : Dev nD) (i : grid1.Coords) (arg2 : Memref sig .tc .vmem S4096x64 .f32) (harg2 : arg2.IsWhole) (arg3 : Memref sig .tc .vmem S128x2048 .f32) (harg3 : arg3.IsWhole) (arg4 : Memref sig .tc .vmem S128x32 .f32) (harg4 : arg4.IsWhole)
    (arg5 : Memref sig .tc .vmem S1x1x4096 .f32) (harg5 : arg5.IsWhole) (arg6 : Memref sig .tc .vmem S1x1x4096 .f32) (harg6 : arg6.IsWhole) (hc0 : cond1_0 i) (hc1 : ¬cond1_1 i) (hc2 : cond1_2 i)
    (x0 : Vec Ideal S4096x64 .f32) (x1 : Vec Ideal S128x2048 .f32) (x2 : Vec Ideal S128x32 .f32) (y : S1x1x4096.Idx) :
    out1_A_4 c i arg2 harg2 arg3 harg3 arg4 harg4 arg5 harg5 arg6 harg6 hc0 hc1 hc2 x0 x1 x2 y = k1_pay8 (k1_pay12 x0 x1 x2) (k1_pay13 x0 x1 x2) y := by
  frame_out

/-- A sum selected at the first lane is its first term. -/
theorem sum_first (f : Fin 64 → EReal) :
    ∑ x : Fin 64, Scalar.select (IntOp.cmpi .eq (BitVec.ofNat 32 x.val) 0#32) (f x) 0 = f 0 := by
  have h : ∀ x : Fin 64, Scalar.select (IntOp.cmpi .eq (BitVec.ofNat 32 x.val) 0#32) (f x) 0 = if x = 0 then f x else 0 := fun x => by
    rw [show (0#32) = BitVec.ofNat 32 (0 : Fin 64).val from rfl, select_eq_word (by omega) (by decide)]
    simp only [Fin.ext_iff]
  simp only [h, Finset.sum_ite_eq', Finset.mem_univ, if_true]

section

variable (x0 : Vec Ideal S4096x64 .f32) (x1 : Vec Ideal S128x2048 .f32) (x2 : Vec Ideal S128x32 .f32)
  (X : Fin 4096 → Fin 64 → ℝ) (hx : ∀ n d, x0 (ix2 n d) = ((X n d : ℝ) : EReal))
  (a : Fin 32 → Fin 64 → Fin 64 → ℝ)
  (ha : ∀ (j : Fin 64) (k : Fin 32) (d : Fin 64),
    x1 (ix2 (⟨j.val, lo_lt j⟩ : Fin 128) (⟨k.val * 64 + d.val, col_lt k d⟩ : Fin 2048)) = ((a k j d : ℝ) : EReal))
  (ha' : ∀ (j : Fin 64) (k : Fin 32) (d : Fin 64),
    x1 (ix2 (⟨64 + j.val, hi_lt j⟩ : Fin 128) (⟨k.val * 64 + d.val, col_lt k d⟩ : Fin 2048)) = 0)
  (b : Fin 32 → Fin 64 → ℝ) (hb : ∀ (j : Fin 64) (k : Fin 32), x2 (ix2 (⟨j.val, lo_lt j⟩ : Fin 128) k) = ((b k j : ℝ) : EReal))
  (o : Fin 32 → ℝ) (ho : ∀ k : Fin 32, x2 (ix2 (64 : Fin 128) k) = ((o k : ℝ) : EReal))

include hx ha ha' hb ho

/-- A point's score for a component: the linear part, the offset and the quadratic part. -/
theorem score_at (k : Fin 32) (n : Fin 4096) :
    k1_pay9 x0 x1 x2 (ix2 k n)
      = (((∑ d, b k d * X n d) + o k + ∑ d, (∑ j, a k j d * X n j) * X n d : ℝ) : EReal) := by
  pointwise [k1_pay9]
  rw [sum_first fun x => x2 (ix2 ⟨64 + x.val, _⟩ k)]
  simp only [sum_first fun x => x1 (ix2 ⟨64 + x.val, _⟩ _)]
  have he : ∀ d : Fin 64, ∑ x : Fin 64, FloatOps.sitofp (F := Ideal) FTy.f32
      (BitVec.setWidth 32 (IntOp.cmpi .eq (BitVec.ofNat 32 d.val) (BitVec.ofNat 32 x.val))) * x0 (ix2 n x) = ((X n d : ℝ) : EReal) := fun d => by
    have h1 : ∀ x : Fin 64, (FloatOps.sitofp (F := Ideal) FTy.f32
        (BitVec.setWidth 32 (IntOp.cmpi .eq (BitVec.ofNat 32 d.val) (BitVec.ofNat 32 x.val))) * x0 (ix2 n x) : EReal)
        = (((if d = x then X n x else 0) : ℝ) : EReal) := fun x => by
      rw [eye_word (by omega) (by omega), hx, ← EReal.coe_mul]
      by_cases h : d = x
      · subst h; simp
      · rw [if_neg h, if_neg (fun h' => h (Fin.ext h')), zero_mul]
    simp only [h1, coe_sum, Finset.sum_ite_eq, Finset.mem_univ, if_true]
  simp only [he]
  have ho' : x2 (ix2 (⟨64 + (0 : Fin 64).val, by decide⟩ : Fin 128) k) = ((o k : ℝ) : EReal) := ho k
  have ha0 : ∀ d : Fin 64, x1 (ix2 (⟨64 + (0 : Fin 64).val, by decide⟩ : Fin 128) (⟨k.val * 64 + d.val, col_lt k d⟩ : Fin 2048)) = 0 :=
    fun d => ha' 0 k d
  simp only [ho', ha0, ha, hb, hx, add_zero, ← EReal.coe_mul, ← EReal.coe_add, coe_sum]

variable (s : Fin 4096 → Fin 32 → ℝ)
  (hs : ∀ n k, (∑ d, b k d * X n d) + o k + ∑ d, (∑ j, a k j d * X n j) * X n d = s n k)

include hs

/-- The score as its name. -/
theorem score_eq (k : Fin 32) (n : Fin 4096) : k1_pay9 x0 x1 x2 (ix2 k n) = ((s n k : ℝ) : EReal) := by
  rw [score_at x0 x1 x2 X hx a ha ha' b hb o ho k n, hs]

omit hx ha ha' hb ho hs in
/-- The largest score of a point, laid out either way, and the sum of its shifted exponentials. -/
theorem row_outs (h9 : ∀ k n, k1_pay9 x0 x1 x2 (ix2 k n) = ((s n k : ℝ) : EReal)) :
    ∃ m : Fin 4096 → ℝ, (∀ n, k1_pay12 x0 x1 x2 (ix3 0 0 n) = ((m n : ℝ) : EReal))
      ∧ ∀ n, k1_pay13 x0 x1 x2 (ix3 0 0 n) = ((∑ k, Real.exp (s n k - m n) : ℝ) : EReal) := by
  choose m hm using fun n => coe_fold_max (fun k => s n k)
  have h10 : ∀ n, k1_pay10 x0 x1 x2 (ix2 0 n) = ((m n : ℝ) : EReal) := fun n => by
    pointwise [k1_pay10]
    simp only [h9, ofBits_neg_inf]
    exact hm n
  refine ⟨m, fun n => ?_, fun n => ?_⟩
  · pointwise [k1_pay12]
    exact h10 n
  · pointwise [k1_pay13, k1_pay11]
    simp only [h9, h10, ← EReal.coe_sub, Ideal.exp_coe, coe_sum]

omit hx ha ha' hb ho hs in
/-- The final stores over real rows. -/
theorem final_outs (u v : Vec Ideal S1x1x4096 .f32) (m : Fin 4096 → ℝ)
    (hu : ∀ n, u (ix3 0 0 n) = ((m n : ℝ) : EReal))
    (hv : ∀ n, v (ix3 0 0 n) = ((∑ k, Real.exp (s n k - m n) : ℝ) : EReal)) :
    ∃ M : ℝ, (∀ n, k1_pay7 u (ix3 0 0 n) = ((M : ℝ) : EReal))
      ∧ ∀ n, k1_pay8 u v (ix3 0 0 n) = ((∑ n, ∑ k, Real.exp (s n k - M) : ℝ) : EReal) := by
  obtain ⟨M, hM⟩ := coe_fold_max (fun x : Fin 1 × Fin 4096 => m x.2)
  have hM' : Finset.fold max (Ideal.ofBits FTy.f32 4286578688#32)
      (fun x : Fin 1 × Fin 4096 => u (ix3 0 x.1 x.2)) Finset.univ = ((M : ℝ) : EReal) := by
    rw [ofBits_neg_inf, show (fun x : Fin 1 × Fin 4096 => u (ix3 0 x.1 x.2)) = fun x : Fin 1 × Fin 4096 => ((m x.2 : ℝ) : EReal) from
      funext fun x => by rw [Subsingleton.elim x.1 0]; exact hu x.2]
    exact hM
  refine ⟨M, fun n => ?_, fun n => ?_⟩
  · pointwise [k1_pay7, k1_pay6, k1_pay5]
    rw [hM']
  · pointwise [k1_pay8, k1_pay6, k1_pay5]
    rw [hM', Finset.univ_unique, Finset.sum_singleton, ← rescale_sum s m M, ← coe_sum]
    refine Finset.sum_congr rfl fun n _ => ?_
    rw [hu, hv, ← EReal.coe_sub, Ideal.exp_coe, ← EReal.coe_mul]

/-- The block's outputs: a real offset on every lane, and the sum of the shifted exponentials of all scores. -/
theorem block_outs : ∃ M : ℝ, (∀ n, k1_pay7 (k1_pay12 x0 x1 x2) (ix3 0 0 n) = ((M : ℝ) : EReal))
    ∧ ∀ n, k1_pay8 (k1_pay12 x0 x1 x2) (k1_pay13 x0 x1 x2) (ix3 0 0 n) = ((∑ n, ∑ k, Real.exp (s n k - M) : ℝ) : EReal) := by
  obtain ⟨m, h12, h13⟩ := row_outs x0 x1 x2 s (score_eq x0 x1 x2 X hx a ha ha' b hb o ho s hs)
  exact final_outs s _ _ m h12 h13

end

end Cert.KernelIdeal.Exec

end

end
-- ==== Proof.KernelIdeal.MahaArrays.lean ====
/- The scoring kernel's two output arrays after its eight grid points. -/
module

public import proofs.«01_k».proof.Proof.KernelIdeal.MahaValue
public import Idealize.ShloMosaic.Lib.Pipeline.ValueKit

@[expose] public section

set_option maxRecDepth 16384

noncomputable section

namespace Cert.KernelIdeal.Exec

open Cert.KernelIdeal Cert.KernelIdeal.Gen
open Idealize.ShloMosaic Idealize.ShloMosaic.TcCoe Idealize.SL.Sem
open Idealize.ShloMosaic.Pipeline (Dat)
open Cert.Math

variable (V : (c : Dev nD) → (b : Ref sig .tc) → Buf (Elt Ideal) ((c : Thread nD τ).loc b))

/-- Every window's block index at every point. -/
theorem idx1 : ∀ t : Fin cfg1.N, win1_0.index t = ![t.val, 0] ∧ win1_1.index t = ![0, 0] ∧ win1_2.index t = ![0, 0]
    ∧ win1_3.index t = ![t.val, 0, 0] ∧ win1_4.index t = ![t.val, 0, 0] :=
  (by decide +kernel : ∀ t : Fin grid1.N, _)

/-- A point's block of points is its 4096 rows. -/
theorem iblk1_0 (c : Dev nD) (t : Fin cfg1.N) (n : Fin 4096) (d : Fin 64) (h : t.val * 4096 + n.val < 32768) :
    iblk1 V c 0 t (ix2 n d) = V c main_arg0 (ix2 ⟨t.val * 4096 + n.val, h⟩ d) := by
  blk_ext [iblk1, idx1 t]
/-- The other input blocks are whole arrays. -/
theorem iblk1_1 (c : Dev nD) (t : Fin cfg1.N) : iblk1 V c 1 t = V c main_v1_0 := by blk_ext! [iblk1, idx1 t]
/-- The block of offsets and linear coefficients is the whole array. -/
theorem iblk1_2 (c : Dev nD) (t : Fin cfg1.N) : iblk1 V c 2 t = V c main_v1_1 := by blk_ext! [iblk1, idx1 t]

/-- An output array's element is what its block's point left, if that is the same on every lane. -/
theorem arr1_3 (c : Dev nD) (f : Fin cfg1.N → EReal) (h : ∀ t n, (dat1 V c).after 3 t (ix3 0 0 n) = f t) (i : S8x1x4096.Idx) :
    (dat1 V c).arrAt 3 cfg1.N i = f ⟨(i 0).val, by rw [show cfg1.N = 8 from N_1]; exact (i 0).isLt⟩ := by
  refine (dat1 V c).arrAt_forall_of_covers 3 (fun i v => v = f ⟨(i 0).val, by rw [show cfg1.N = 8 from N_1]; exact (i 0).isLt⟩)
    (by decide +kernel) (fun t hf y => ?_) i
  blk_simp
  have e : win1_3.index t 0 = t.val := congrFun (idx1 t).2.2.2.1 0
  rw [show y = ix3 0 0 (y 2) by blk_ext]
  exact (h t _).trans (congrArg f (Fin.ext e.symm))

/-- The same for the other output. -/
theorem arr1_4 (c : Dev nD) (f : Fin cfg1.N → EReal) (h : ∀ t n, (dat1 V c).after 4 t (ix3 0 0 n) = f t) (i : S8x1x4096.Idx) :
    (dat1 V c).arrAt 4 cfg1.N i = f ⟨(i 0).val, by rw [show cfg1.N = 8 from N_1]; exact (i 0).isLt⟩ := by
  refine (dat1 V c).arrAt_forall_of_covers 4 (fun i v => v = f ⟨(i 0).val, by rw [show cfg1.N = 8 from N_1]; exact (i 0).isLt⟩)
    (by decide +kernel) (fun t hf y => ?_) i
  blk_simp
  have e : win1_4.index t 0 = t.val := congrFun (idx1 t).2.2.2.2 0
  rw [show y = ix3 0 0 (y 2) by blk_ext]
  exact (h t _).trans (congrArg f (Fin.ext e.symm))

section

variable (c : Dev nD) (X : Fin 32768 → Fin 64 → ℝ) (hx : ∀ n d, V c main_arg0 (ix2 n d) = ((X n d : ℝ) : EReal))
  (a : Fin 32 → Fin 64 → Fin 64 → ℝ)
  (ha : ∀ (j : Fin 64) (k : Fin 32) (d : Fin 64),
    V c main_v1_0 (ix2 (⟨j.val, lo_lt j⟩ : Fin 128) (⟨k.val * 64 + d.val, col_lt k d⟩ : Fin 2048)) = ((a k j d : ℝ) : EReal))
  (ha' : ∀ (j : Fin 64) (k : Fin 32) (d : Fin 64),
    V c main_v1_0 (ix2 (⟨64 + j.val, hi_lt j⟩ : Fin 128) (⟨k.val * 64 + d.val, col_lt k d⟩ : Fin 2048)) = (0 : EReal))
  (b : Fin 32 → Fin 64 → ℝ) (hb : ∀ (j : Fin 64) (k : Fin 32), V c main_v1_1 (ix2 (⟨j.val, lo_lt j⟩ : Fin 128) k) = ((b k j : ℝ) : EReal))
  (o : Fin 32 → ℝ) (ho : ∀ k : Fin 32, V c main_v1_1 (ix2 (64 : Fin 128) k) = ((o k : ℝ) : EReal))
  (s : Fin 32768 → Fin 32 → ℝ)
  (hs : ∀ n k, (∑ d, b k d * X n d) + o k + ∑ d, (∑ j, a k j d * X n j) * X n d = s n k)

include hx ha ha' hb ho hs

/-- After the region: each block holds a real offset on its lanes in the one array, and the sum of the shifted
    exponentials of the block's scores in the other. -/
theorem arrays1 : ∃ M : Fin 8 → ℝ,
    (∀ i : Fin 8, (dat1 V c).arrAt 3 cfg1.N (ix3 i 0 0) = ((M i : ℝ) : EReal))
    ∧ ∀ i : Fin 8, (dat1 V c).arrAt 4 cfg1.N (ix3 i 0 0) = ((∑ n, ∑ k, Real.exp (s (row i n) k - M i) : ℝ) : EReal) := by
  have hN : ∀ t : Fin cfg1.N, t.val < 8 := fun t => Nat.lt_of_lt_of_eq t.isLt N_1
  have hblk : ∀ t : Fin cfg1.N, ∃ M : ℝ, (∀ n, (dat1 V c).after 3 t (ix3 0 0 n) = ((M : ℝ) : EReal))
      ∧ ∀ n, (dat1 V c).after 4 t (ix3 0 0 n)
        = ((∑ n, ∑ k, Real.exp (s (row ⟨t.val, hN t⟩ n) k - M) : ℝ) : EReal) := fun t => by
    obtain ⟨M, h3, h4⟩ := block_outs (iblk1 V c 0 t) (V c main_v1_0) (V c main_v1_1)
      (fun n d => X (row ⟨t.val, hN t⟩ n) d)
      (fun n d => (iblk1_0 V c t n d (row ⟨t.val, hN t⟩ n).isLt).trans (hx _ d)) a ha ha' b hb o ho
      (fun n k => s (row ⟨t.val, hN t⟩ n) k) (fun n k => hs _ k)
    refine ⟨M, fun n => ?_, fun n => ?_⟩
    · rw [after1_3]
      unfold outsAt1
      dsimp only
      rw [iblk1_1, iblk1_2, out1_3_eq]
      exact h3 n
    · rw [after1_4]
      unfold outsAt1
      dsimp only
      rw [iblk1_1, iblk1_2, out1_4_eq]
      exact h4 n
  choose M h3 h4 using hblk
  exact ⟨fun i => M ⟨i.val, by rw [show cfg1.N = 8 from N_1]; exact i.isLt⟩,
    fun i => arr1_3 V c (fun t => ((M t : ℝ) : EReal)) h3 (ix3 i 0 0), fun i => arr1_4 V c _ h4 (ix3 i 0 0)⟩

end

end Cert.KernelIdeal.Exec

end

end
-- ==== Proof.KernelIdeal.Tail.lean ====
/- The host operations after the kernels: the blocks' sums joined into the negative log-likelihood. -/
module

public import proofs.«01_k».proof.Proof.Gen.KernelIdeal.Launch
public import proofs.«01_k».proof.Proof.Math.Model
public import Idealize.ShloMosaic.Lib.Pipeline.ValueKit

@[expose] public section

set_option maxRecDepth 16384

noncomputable section

namespace Cert.KernelIdeal.Exec

open Cert.KernelIdeal Cert.KernelIdeal.Gen
open Idealize.ShloMosaic Idealize.ShloMosaic.TcCoe Idealize.SL.Sem
open Idealize.ShloMosaic.Pipeline (Dat)
open Cert.Math

/-- The host tail as a function of the scoring kernel's two arrays. -/
def tail (m s : FVec Ideal S8x1x4096 .f32) : FVec Ideal S_ .f32 :=
  let m4 : FVec Ideal S8 .f32 := shapeCast S8 (extractStridedSlice S8x1x1 ![0, 0, 0] m slices_S8x1x4096_S8x1x1_0_0_0) shapeCasts_S8x1x1_S8
  let s6 : FVec Ideal S8 .f32 := shapeCast S8 (extractStridedSlice S8x1x1 ![0, 0, 0] s slices_S8x1x4096_S8x1x1_0_0_0) shapeCasts_S8x1x1_S8
  let m7 : FVec Ideal S_ .f32 := Host.reduce FloatOps.maximumf m4 (constant S_ .f32 0xFF800000#32) reducesTo_S8_S_d0 h_S_
  let e10 : FVec Ideal S8 .f32 := Host.exp (subf m4 (broadcastInDim S8 ![] bcast_S_S8 m7))
  let s12 : FVec Ideal S_ .f32 := Host.reduceAdd (mulf s6 e10) (constant S_ .f32 0x00000000#32) reducesTo_S8_S_d0 h_S_
  Host.negf (addf m7 (Host.log s12))

/-- What the host tail leaves in the result buffer. -/
theorem after_tail (W : Valuation τ sig (Elt Ideal)) :
    StableHlo.after hostOps2 W (Proc.devRef .tc main_v15) = tail (W (Proc.devRef .tc main_v2_0)) (W (Proc.devRef .tc main_v2_1)) := by
  after_results
  rfl

/-- The tail over real blocks: minus the logarithm of the sum of all exponentials. -/
theorem tail_real (m s : FVec Ideal S8x1x4096 .f32) (M : Fin 8 → ℝ) (x : Fin 32768 → Fin 32 → ℝ)
    (hm : ∀ i : Fin 8, m (ix3 i 0 0) = ((M i : ℝ) : EReal))
    (hs : ∀ i : Fin 8, s (ix3 i 0 0) = ((∑ n, ∑ k, Real.exp (x (row i n) k - M i) : ℝ) : EReal))
    (j : S_.Idx) : tail m s j = ((-Real.log (∑ n, ∑ k, Real.exp (x n k)) : ℝ) : EReal) := by
  obtain ⟨W, hW⟩ := coe_fold_max M
  have hfold : Finset.fold max (Ideal.ofBits FTy.f32 4286578688#32) (fun i : Fin 8 => m (ix3 i 0 0)) Finset.univ = ((W : ℝ) : EReal) := by
    simp only [ofBits_neg_inf, hm]
    exact hW
  pointwise [tail]
  rw [hfold]
  simp only [hm, hs, ← EReal.coe_sub, Ideal.exp_coe, ← EReal.coe_mul, coe_sum]
  rw [sum_blocks, log_coe_pos (sum_exp_pos₂ x W), ← EReal.coe_add, lse_shift₂, EReal.coe_neg]

end Cert.KernelIdeal.Exec

end

end
-- ==== Proof.KernelIdeal.Value.lean ====
/- The kernel's result over real arguments: the negative log-likelihood of the model. -/
module

public import proofs.«01_k».proof.Proof.KernelIdeal.Frame
public import proofs.«01_k».proof.Proof.KernelIdeal.PrepArrays
public import proofs.«01_k».proof.Proof.KernelIdeal.MahaArrays
public import proofs.«01_k».proof.Proof.KernelIdeal.Tail
public import Idealize.ShloMosaic.Lib.Pipeline.ValueKit

@[expose] public section

set_option maxRecDepth 16384

noncomputable section

namespace Cert.KernelIdeal.Exec

open Cert.KernelIdeal Cert.KernelIdeal.Gen
open Idealize.ShloMosaic Idealize.ShloMosaic.TcCoe Idealize.SL.Sem
open Idealize.ShloMosaic.Pipeline (Dat)
open Cert.Math

/-- What the first host operation leaves in the row of scores. -/
theorem after_scores (W : Valuation τ sig (Elt Ideal)) :
    StableHlo.after hostOps0 W (Proc.devRef .tc main_v0)
      = shapeCast S1x32 (W (Proc.devRef .tc main_arg3) : FVec Ideal S32 .f32) shapeCasts_S32_S1x32 := by
  after_results
  rfl

/-- The row of scores read at a component. -/
theorem scores_at (x : FVec Ideal S32 .f32) (k : Fin 32) :
    (shapeCast S1x32 x shapeCasts_S32_S1x32 : FVec Ideal S1x32 .f32) (ix2 0 k) = x (ix1 k) := by
  pointwise

variable (m : (ℓ : Loc nD τ sig) → Buf (Elt Ideal) ℓ) (ρ : Dev nD → PrngReg) (c : Dev nD)

/-- The precision array the scoring kernel reads. -/
theorem V2_prec : V2 m ρ c main_v1_0
    = fun j : S128x2048.Idx => k0_pay53 (k0_pay48 (prep (m ((c.tc : Thread nD τ).loc main_arg2))).1) j := by
  refine (W2_arr m ρ c 3).trans ((arr0_3 (V1 m ρ) c).trans ?_)
  rw [show V1 m ρ c main_arg2 = m ((c.tc : Thread nD τ).loc main_arg2) from W1_args m ρ c main_arg2 (by decide)]

/-- The array of linear parts and offsets the scoring kernel reads. -/
theorem V2_lin : V2 m ρ c main_v1_1
    = fun j : S128x32.Idx => k0_pay54 (k0_pay49 (prep (m ((c.tc : Thread nD τ).loc main_arg2))).2)
      (k0_pay50 (prep (m ((c.tc : Thread nD τ).loc main_arg2))).1 (m ((c.tc : Thread nD τ).loc main_arg1)))
      (k0_pay51 (prep (m ((c.tc : Thread nD τ).loc main_arg2))).1 (m ((c.tc : Thread nD τ).loc main_arg1)) (m ((c.tc : Thread nD τ).loc main_arg1)))
      k0_pay52 (FloatOps.ofBits .f32 0#32)
      (shapeCast S1x32 (m ((c.tc : Thread nD τ).loc main_arg3) : FVec Ideal S32 .f32) shapeCasts_S32_S1x32) j := by
  refine (W2_arr m ρ c 4).trans ((arr0_4 (V1 m ρ) c).trans ?_)
  rw [show V1 m ρ c main_arg2 = m ((c.tc : Thread nD τ).loc main_arg2) from W1_args m ρ c main_arg2 (by decide),
    show V1 m ρ c main_arg1 = m ((c.tc : Thread nD τ).loc main_arg1) from W1_args m ρ c main_arg1 (by decide),
    show V1 m ρ c main_v0 = shapeCast S1x32 (m ((c.tc : Thread nD τ).loc main_arg3) : FVec Ideal S32 .f32) shapeCasts_S32_S1x32
      from after_scores (W0 m ρ c)]

/-- The kernel's result over real arguments. -/
theorem result_real (X : Fin 32768 → Fin 64 → ℝ) (mu : Fin 32 → Fin 64 → ℝ) (L : Fin 32 → Fin 64 → Fin 64 → ℝ) (w : Fin 32 → ℝ)
    (hX : ∀ (n : Fin 32768) (d : Fin 64), m ((c.tc : Thread nD τ).loc main_arg0) (ix2 n d) = ((X n d : ℝ) : EReal))
    (hmu : ∀ (k : Fin 32) (d : Fin 64), m ((c.tc : Thread nD τ).loc main_arg1) (ix2 k d) = ((mu k d : ℝ) : EReal))
    (hL : ∀ (k : Fin 32) (r e : Fin 64), m ((c.tc : Thread nD τ).loc main_arg2) (ix3 k r e) = ((L k r e : ℝ) : EReal))
    (hw : ∀ k : Fin 32, m ((c.tc : Thread nD τ).loc main_arg3) (ix1 k) = ((w k : ℝ) : EReal)) :
    W4 m ρ c (Proc.devRef .tc main_v15) = fun _ => ((nll cst w L mu X : ℝ) : EReal) := by
  have hs := fun k => (scores_at (m ((c.tc : Thread nD τ).loc main_arg3)) k).trans (hw k)
  obtain ⟨M, h3, h4⟩ := arrays1 (V2 m ρ) c X
    (fun n d => (congrFun (W2_args m ρ c main_arg0 (by decide)) _).trans (hX n d))
    (fun k j d => -(1 / 2) * prec (L k) j d)
    (fun j k d => (congrFun (V2_prec m ρ c) _).trans (at_upper _ L hL j k d))
    (fun j k d => (congrFun (V2_prec m ρ c) _).trans (at_lower _ j k d))
    (fun k => pmu (prec (L k)) (mu k))
    (fun j k => (congrFun (V2_lin m ρ c) _).trans (bb_rows _ L hL _ mu hmu _ j k))
    _ (fun k => (congrFun (V2_lin m ρ c) _).trans (bb_offset _ L hL _ mu hmu _ w hs k))
    (fun n k => logp cst w L mu (X n) k) (fun n k => logp_expand cst w L mu (X n) k)
  refine (after_tail (W3 m ρ c)).trans (funext fun j => ?_)
  exact tail_real _ _ M (fun n k => logp cst w L mu (X n) k)
    (fun i => (congrFun (W3_arr m ρ c 3) _).trans (h3 i)) (fun i => (congrFun (W3_arr m ρ c 4) _).trans (h4 i)) j

end Cert.KernelIdeal.Exec

end

end
-- ==== Proof.Reference.Frame.lean ====
/- The reference program leaves its arguments as launched, and no semaphore is ever raised: it has none. -/
module

public import proofs.«01_k».proof.Proof.Gen.ReferenceIdeal.Run
public import Idealize.ShloMosaic.Lib.Quiescent

@[expose] public section

noncomputable section

namespace Cert.ReferenceIdeal.Exec

open Idealize.ShloMosaic Idealize.ShloMosaic.TcCoe Idealize.SL.Sem

variable {F : FTy → Type} [FloatOps F] (m : (ℓ : Loc nD τ sig) → Buf (Elt F) ℓ) (ρ : Dev nD → PrngReg)

/-- From any memory with zero counters the reference terminates with its five arguments unchanged and every counter at
    zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2, sem_eq_zero_of_no_sems rfl _⟩) (Value.run m ρ)

end Cert.ReferenceIdeal.Exec

end
-- ==== Proof.Reference.Trip.lean ====
/- One trip of the reference's elimination loop read at an index, at exact arithmetic. -/
module

public import proofs.«01_k».proof.Proof.Gen.ReferenceIdeal
public import proofs.«01_k».proof.Proof.Math.Model
public import Idealize.ShloMosaic.Lib.Pointwise
public import Idealize.ShloMosaic.Lib.WordCmp

@[expose] public section

set_option maxRecDepth 16384

noncomputable section

namespace Cert.ReferenceIdeal.Exec

open Cert.ReferenceIdeal Cert.ReferenceIdeal.Gen
open Idealize.ShloMosaic Idealize.ShloMosaic.TcCoe Idealize.SL.Sem
open Cert.Math

/-- The step's index counted from the end when it is negative. -/
def wrap (i : IVec S_ 32) : IVec S_ 32 :=
  select (cmpi .slt i (constantI S_ 32 0#32)) (addi (id i) (constantI S_ 32 64#32)) i
/-- The pivot rows of a stack of matrices. -/
def rowsOf (A : FVec Ideal S32x64x64 .f32) (i : IVec S_ 32) : FVec Ideal S32x1x64 .f32 :=
  Host.dynamicSlice S32x1x64 A
    (fun k => (((![constantI S_ 32 0#32, wrap i, constantI S_ 32 0#32] : Fin 3 → IVec S_ 32)) k (Shape.Idx.first h_S_)).toInt)
    sliceFits_S32x64x64_S32x1x64
/-- The pivot of each row. -/
def pivOf (R : FVec Ideal S32x1x64 .f32) (i : IVec S_ 32) : FVec Ideal S32x1x1 .f32 :=
  Host.dynamicSlice S32x1x1 R
    (fun k => (((![constantI S_ 32 0#32, constantI S_ 32 0#32, wrap i] : Fin 3 → IVec S_ 32)) k (Shape.Idx.first h_S_)).toInt)
    sliceFits_S32x1x64_S32x1x1
/-- The pivot columns of a stack of matrices. -/
def colsOf (A : FVec Ideal S32x64x64 .f32) (i : IVec S_ 32) : FVec Ideal S32x64x1 .f32 :=
  Host.dynamicSlice S32x64x1 A
    (fun k => (((![constantI S_ 32 0#32, constantI S_ 32 0#32, wrap i] : Fin 3 → IVec S_ 32)) k (Shape.Idx.first h_S_)).toInt)
    sliceFits_S32x64x64_S32x64x1
/-- Rows divided by their pivots. -/
def divOf (R : FVec Ideal S32x1x64 .f32) (p : FVec Ideal S32x1x1 .f32) : FVec Ideal S32x1x64 .f32 :=
  Host.divf R (broadcastInDim S32x1x64 ![0, 1, 2] bcast_S32x1x1_S32x1x64_0_1_2 p)
/-- One trip on a stack of matrices: the pivot row replaced, the pivot column's multiples subtracted elsewhere. -/
def tripOf (A : FVec Ideal S32x64x64 .f32) (C : FVec Ideal S32x64x1 .f32) (Q : FVec Ideal S32x1x64 .f32) (i : IVec S_ 32) :
    FVec Ideal S32x64x64 .f32 :=
  select (broadcastInDim S32x64x64 ![0, 1, 2] bcast_S1x64x1_S32x64x64_0_1_2
      (cmpi .eq (iotaInDim S1x64x1 32 1) (broadcastInDim S1x64x1 ![] bcast_S_S1x64x1 (id i))))
    (broadcastInDim S32x64x64 ![0, 1, 2] bcast_S32x1x64_S32x64x64_0_1_2 Q)
    (subf A (mulf (broadcastInDim S32x64x64 ![0, 1, 2] bcast_S32x64x1_S32x64x64_0_1_2 C)
      (broadcastInDim S32x64x64 ![0, 1, 2] bcast_S32x1x64_S32x64x64_0_1_2 Q)))
/-- One trip on the running log-determinants. -/
def logOf (ld : FVec Ideal S32 .f32) (p : FVec Ideal S32x1x1 .f32) : FVec Ideal S32 .f32 :=
  addf ld (Host.log (Host.absf (shapeCast S32 p shapeCasts_S32x1x1_S32)))

/-- The index as a word. -/
abbrev word (k : Fin 64) : IVec S_ 32 := fun _ => BitVec.ofNat 32 k.val

/-- A step's index is never negative, so it stays. -/
theorem wrap_word (k : Fin 64) : wrap (word k) = word k := by
  have h : ∀ k : Fin 64, Scalar.select (IntOp.cmpi .slt (BitVec.ofNat 32 k.val) 0#32) (BitVec.ofNat 32 k.val + 64#32) (BitVec.ofNat 32 k.val)
      = BitVec.ofNat 32 k.val := by decide +kernel
  exact funext fun _ => h k

/-- A step's index read as an integer. -/
theorem word_toInt : ∀ k : Fin 64, (BitVec.ofNat 32 k.val).toInt = k.val := by decide +kernel

variable (A : FVec Ideal S32x64x64 .f32) (k : Fin 64)

/-- Where the slice of the pivot rows starts. -/
theorem rows_start : ∀ (h : S32x1x64.rank = S32x64x64.rank) (k : Fin 64) (a : Fin 3), Host.clampedStart S32x64x64 S32x1x64 h
    (fun a => ((![constantI S_ 32 0#32, word k, constantI S_ 32 0#32] : Fin 3 → IVec S_ 32) a (Shape.Idx.first h_S_)).toInt) a
      = (![0, k.val, 0] : Fin 3 → ℕ) a :=
  by decide +kernel

/-- Where the slice of the pivots starts. -/
theorem piv_start : ∀ (h : S32x1x1.rank = S32x1x64.rank) (k : Fin 64) (a : Fin 3), Host.clampedStart S32x1x64 S32x1x1 h
    (fun a => ((![constantI S_ 32 0#32, constantI S_ 32 0#32, word k] : Fin 3 → IVec S_ 32) a (Shape.Idx.first h_S_)).toInt) a
      = (![0, 0, k.val] : Fin 3 → ℕ) a :=
  by decide +kernel

/-- Where the slice of the pivot columns starts. -/
theorem cols_start : ∀ (h : S32x64x1.rank = S32x64x64.rank) (k : Fin 64) (a : Fin 3), Host.clampedStart S32x64x64 S32x64x1 h
    (fun a => ((![constantI S_ 32 0#32, constantI S_ 32 0#32, word k] : Fin 3 → IVec S_ 32) a (Shape.Idx.first h_S_)).toInt) a
      = (![0, 0, k.val] : Fin 3 → ℕ) a :=
  by decide +kernel

/-- An entry of the pivot rows. -/
theorem rowsOf_at (kk : Fin 32) (c : Fin 64) : rowsOf A (word k) (ix3 kk 0 c) = A (ix3 kk k c) := by
  unfold rowsOf
  rw [wrap_word]
  pointwise
  have h := rows_start sliceFits_S32x64x64_S32x1x64.1 k
  refine congrArg A ((ix3_inj ..).2 ⟨Fin.ext ?_, Fin.ext ?_, Fin.ext ?_⟩)
  · exact (congrArg (· + kk.val) (h 0)).trans (Nat.zero_add _)
  · exact h 1
  · exact (congrArg (· + c.val) (h 2)).trans (Nat.zero_add _)

/-- The pivot of one component. -/
theorem pivOf_at (R : FVec Ideal S32x1x64 .f32) (kk : Fin 32) : pivOf R (word k) (ix3 kk 0 0) = R (ix3 kk 0 k) := by
  unfold pivOf
  rw [wrap_word]
  pointwise
  have h := piv_start sliceFits_S32x1x64_S32x1x1.1 k
  refine congrArg R ((ix3_inj ..).2 ⟨Fin.ext ?_, Fin.ext ?_, Fin.ext ?_⟩)
  · exact (congrArg (· + kk.val) (h 0)).trans (Nat.zero_add _)
  · exact h 1
  · exact h 2

/-- An entry of the pivot columns. -/
theorem colsOf_at (kk : Fin 32) (r : Fin 64) : colsOf A (word k) (ix3 kk r 0) = A (ix3 kk r k) := by
  unfold colsOf
  rw [wrap_word]
  pointwise
  have h := cols_start sliceFits_S32x64x64_S32x64x1.1 k
  refine congrArg A ((ix3_inj ..).2 ⟨Fin.ext ?_, Fin.ext ?_, Fin.ext ?_⟩)
  · exact (congrArg (· + kk.val) (h 0)).trans (Nat.zero_add _)
  · exact (congrArg (· + r.val) (h 1)).trans (Nat.zero_add _)
  · exact h 2

/-- An entry of the divided pivot rows. -/
theorem divOf_at (R : FVec Ideal S32x1x64 .f32) (p : FVec Ideal S32x1x1 .f32) (kk : Fin 32) (c : Fin 64) :
    divOf R p (ix3 kk 0 c) = Ideal.div (R (ix3 kk 0 c)) (p (ix3 kk 0 0)) := by
  pointwise [divOf]

/-- An entry after one trip: the divided pivot row, or the entry less its multiple of that row. -/
theorem tripOf_at (C : FVec Ideal S32x64x1 .f32) (Q : FVec Ideal S32x1x64 .f32) (kk : Fin 32) (r c : Fin 64) :
    tripOf A C Q (word k) (ix3 kk r c)
      = if r = k then Q (ix3 kk 0 c) else A (ix3 kk r c) - C (ix3 kk r 0) * Q (ix3 kk 0 c) := by
  pointwise [tripOf]
  have h := select_eq_word (a := r.val) (b := k.val) (by omega) (by omega) (Q (ix3 kk 0 c)) (A (ix3 kk r c) - C (ix3 kk r 0) * Q (ix3 kk 0 c))
  refine h.trans ?_
  by_cases e : r = k
  · rw [if_pos e, if_pos (congrArg Fin.val e)]
  · rw [if_neg e, if_neg fun e' => e (Fin.ext e')]

/-- A log-determinant after one trip: the logarithm of the pivot's absolute value is added. -/
theorem logOf_at (ld : FVec Ideal S32 .f32) (p : FVec Ideal S32x1x1 .f32) (kk : Fin 32) :
    logOf ld p (ix1 kk) = ld (ix1 kk) + Ideal.log (max (p (ix3 kk 0 0)) (-(p (ix3 kk 0 0)))) := by
  pointwise [logOf]
  rfl

end Cert.ReferenceIdeal.Exec

end

end
-- ==== Proof.Reference.Steps.lean ====
/- The reference's elimination loop over real matrices: after `k` trips it holds the real elimination's state. -/
module

public import proofs.«01_k».proof.Proof.Gen.ReferenceIdeal.Run
public import proofs.«01_k».proof.Proof.Reference.Trip

@[expose] public section

set_option maxRecDepth 16384

noncomputable section

namespace Cert.ReferenceIdeal.Exec

open Cert.ReferenceIdeal Cert.ReferenceIdeal.Gen
open Idealize.ShloMosaic Idealize.ShloMosaic.TcCoe Idealize.SL.Sem
open Cert.Math

section

variable (A X : FVec Ideal S32x64x64 .f32) (a x : Fin 32 → Fin 64 → Fin 64 → ℝ) (k : Fin 64)
  (hA : ∀ kk r c, A (ix3 kk r c) = ((a kk r c : ℝ) : EReal)) (hX : ∀ kk r c, X (ix3 kk r c) = ((x kk r c : ℝ) : EReal))
  (hp : ∀ kk, 0 < a kk k k)

include hA hX hp

/-- One trip on real matrices is one elimination step. -/
theorem trip_real (kk : Fin 32) (r c : Fin 64) :
    tripOf X (colsOf A (word k)) (divOf (rowsOf X (word k)) (pivOf (rowsOf A (word k)) (word k))) (word k) (ix3 kk r c)
      = ((gj k (a kk) (x kk) r c : ℝ) : EReal) := by
  rw [tripOf_at, divOf_at, rowsOf_at, pivOf_at, rowsOf_at, colsOf_at, hX, hX, hA, hA, div_coe_coe _ (hp kk).ne']
  unfold gj
  split
  · rfl
  · rw [← EReal.coe_mul, ← EReal.coe_sub]

omit hX in
/-- One trip adds the logarithm of the pivot. -/
theorem log_real (ld : FVec Ideal S32 .f32) (l : Fin 32 → ℝ) (hl : ∀ kk, ld (ix1 kk) = ((l kk : ℝ) : EReal)) (kk : Fin 32) :
    logOf ld (pivOf (rowsOf A (word k)) (word k)) (ix1 kk) = ((l kk + Real.log (a kk k k) : ℝ) : EReal) := by
  rw [logOf_at, pivOf_at, rowsOf_at, hA, hl, abs_coe_pos (hp kk), log_coe_pos (hp kk), EReal.coe_add]

end

/-- The loop's state after `k` trips from the real triangles `L`. -/
structure At (L : Fin 32 → Fin 64 → Fin 64 → ℝ) (k : ℕ) (V : Valuation τ sig (Elt Ideal)) : Prop where
  idx : V (Proc.devRef .tc main_v20_1) = fun _ => BitVec.ofNat 32 k
  left : ∀ (kk : Fin 32) (r c : Fin 64), V (Proc.devRef .tc main_v20_2) (ix3 kk r c) = (((gjs (cov (L kk)) k).1 r c : ℝ) : EReal)
  right : ∀ (kk : Fin 32) (r c : Fin 64), V (Proc.devRef .tc main_v20_3) (ix3 kk r c) = (((gjs (cov (L kk)) k).2 r c : ℝ) : EReal)
  logs : ∀ kk : Fin 32, V (Proc.devRef .tc main_v20_4) (ix1 kk) = ((logdet (cov (L kk)) k : ℝ) : EReal)

/-- One trip advances the state. -/
theorem At.step {L : Fin 32 → Fin 64 → Fin 64 → ℝ} {k : ℕ} (hk : k < 64) {V : Valuation τ sig (Elt Ideal)} (h : At L k V) :
    At L (k + 1) (Value.STEP V) := by
  have hp : ∀ kk, 0 < (gjs (cov (L kk)) k).1 ⟨k, hk⟩ ⟨k, hk⟩ := fun kk => gjs_pivot (cov_pd (L kk)) ⟨k, hk⟩
  have hi : V (Proc.devRef .tc main_v20_1) = word ⟨k, hk⟩ := h.idx
  refine ⟨?_, fun kk r c => ?_, fun kk r c => ?_, fun kk => ?_⟩
  · rw [Value.STEP_main_v20_1]
    unfold Value.step_main_v20_1
    rw [h.idx]
    exact funext fun _ => (BitVec.ofNat_add k 1).symm
  · rw [Value.STEP_main_v20_2, show gjs (cov (L kk)) (k + 1) = _ from dif_pos hk]
    refine Eq.trans ?_ (trip_real (V (Proc.devRef .tc main_v20_2)) (V (Proc.devRef .tc main_v20_2)) _ _ ⟨k, hk⟩ h.left h.left hp kk r c)
    rw [← hi]
    rfl
  · rw [Value.STEP_main_v20_3, show gjs (cov (L kk)) (k + 1) = _ from dif_pos hk]
    refine Eq.trans ?_ (trip_real (V (Proc.devRef .tc main_v20_2)) (V (Proc.devRef .tc main_v20_3)) _ _ ⟨k, hk⟩ h.left h.right hp kk r c)
    rw [← hi]
    rfl
  · rw [Value.STEP_main_v20_4, show logdet (cov (L kk)) (k + 1) = _ from dif_pos hk]
    refine Eq.trans ?_ (log_real (V (Proc.devRef .tc main_v20_2)) _ ⟨k, hk⟩ h.left hp (V (Proc.devRef .tc main_v20_4)) _ h.logs kk)
    rw [← hi]
    rfl

/-- After `k` trips from the start the state is the real elimination's after `k` steps. -/
theorem At.iter {L : Fin 32 → Fin 64 → Fin 64 → ℝ} {V : Valuation τ sig (Elt Ideal)} (h : At L 0 V) :
    ∀ k, k ≤ 64 → At L k (Value.STEP^[k] V)
  | 0, _ => h
  | k + 1, hk => by
    rw [Function.iterate_succ_apply']
    exact (At.iter h k (Nat.le_of_succ_le hk)).step hk

end Cert.ReferenceIdeal.Exec

end

end
-- ==== Proof.Reference.Entry.lean ====
/- What the reference's elimination loop is entered with: the covariances, the identity, zeros, step 0. -/
module

public import proofs.«01_k».proof.Proof.Reference.Steps

@[expose] public section

set_option maxRecDepth 16384

noncomputable section

namespace Cert.ReferenceIdeal.Exec

open Cert.ReferenceIdeal Cert.ReferenceIdeal.Gen
open Idealize.ShloMosaic Idealize.ShloMosaic.TcCoe Idealize.ShloMosaic.StableHlo Idealize.SL.Sem
open Cert.Math

/-- The identity matrix as the program makes it. -/
def eyeOf : FVec Ideal S64x64 .f32 :=
  uitofp .f32 (cmpi .eq (addi (iotaInDim S64x64 32 0) (broadcastInDim S64x64 ![] bcast_S_S64x64 (constantI S_ 32 0#32))) (iotaInDim S64x64 32 1))
/-- The lower triangles of a stack of matrices. -/
def lowOf (x : FVec Ideal S32x64x64 .f32) : FVec Ideal S32x64x64 .f32 :=
  select (broadcastInDim S32x64x64 ![1, 2] bcast_S64x64_S32x64x64_1_2
      (cmpi .sge (addi (iotaInDim S64x64 32 0) (broadcastInDim S64x64 ![] bcast_S_S64x64 (constantI S_ 32 0#32))) (iotaInDim S64x64 32 1)))
    x (broadcastInDim S32x64x64 ![] bcast_S_S32x64x64 (constant S_ .f32 0x00000000#32))
/-- The covariances of a stack of matrices. -/
def covOf (t : FVec Ideal S32x64x64 .f32) : FVec Ideal S32x64x64 .f32 :=
  addf (Host.dotGeneral dot_S32x64x64_S32x64x64_S32x64x64_2_1_1_2_0_0 none t
      (transpose S32x64x64 [0, 2, 1] t transposes_S32x64x64_S32x64x64_0_2_1))
    (broadcastInDim S32x64x64 ![0, 1, 2] bcast_S1x64x64_S32x64x64_0_1_2 (broadcastInDim S1x64x64 ![1, 2] bcast_S64x64_S1x64x64_1_2 eyeOf))

/-- An entry of the identity matrix. -/
theorem eyeOf_at (r c : Fin 64) : eyeOf (ix2 r c) = ((if r = c then 1 else 0 : ℝ) : EReal) := by
  pointwise [eyeOf]
  rw [show IntOp.addi (BitVec.ofNat 32 r.val) 0#32 = BitVec.ofNat 32 r.val from BitVec.add_zero _, eye_bit (by omega) (by omega)]
  simp only [Fin.ext_iff]

/-- An entry of the lower triangles of real matrices. -/
theorem lowOf_at (x : FVec Ideal S32x64x64 .f32) (L : Fin 32 → Fin 64 → Fin 64 → ℝ)
    (hL : ∀ kk r e, x (ix3 kk r e) = ((L kk r e : ℝ) : EReal)) (kk : Fin 32) (r e : Fin 64) :
    lowOf x (ix3 kk r e) = ((lower (L kk) r e : ℝ) : EReal) := by
  pointwise [lowOf]
  rw [show IntOp.addi (BitVec.ofNat 32 r.val) 0#32 = BitVec.ofNat 32 r.val from BitVec.add_zero _, select_ge_word (by omega) (by omega), hL]
  unfold lower
  split <;> rfl

/-- An entry of the covariances of real triangles. -/
theorem covOf_at (t : FVec Ideal S32x64x64 .f32) (L : Fin 32 → Fin 64 → Fin 64 → ℝ)
    (hL : ∀ kk r e, t (ix3 kk r e) = ((lower (L kk) r e : ℝ) : EReal)) (kk : Fin 32) (r c : Fin 64) :
    covOf t (ix3 kk r c) = ((cov (L kk) r c : ℝ) : EReal) := by
  pointwise [covOf, eyeOf_at]
  simp only [hL, ← EReal.coe_mul, coe_sum, ← EReal.coe_add]
  rfl

variable (m : (ℓ : Loc nD τ sig) → Buf (Elt Ideal) ℓ) (c : Dev nD)

/-- The loop starts at step 0. -/
theorem entry_idx : entryContents Value.preI m c (Proc.devRef .tc main_v20_1) = constantI S_ 32 0#32 := by
  simp only [entryContents, afterL_cons, afterL_nil]
  after_reads_simp
  rfl

/-- The left half starts at the covariances. -/
theorem entry_left : entryContents Value.preI m c (Proc.devRef .tc main_v20_2) = covOf (lowOf (m ((c.tc : Thread nD τ).loc main_arg2))) := by
  simp only [entryContents, afterL_cons, afterL_nil]
  after_reads_simp
  rfl

/-- The right half starts at the identity matrix of every component. -/
theorem entry_right : entryContents Value.preI m c (Proc.devRef .tc main_v20_3)
    = broadcastInDim S32x64x64 ![1, 2] bcast_S64x64_S32x64x64_1_2 eyeOf := by
  simp only [entryContents, afterL_cons, afterL_nil]
  after_reads_simp
  rfl

/-- The log-determinants start at zero. -/
theorem entry_logs : entryContents Value.preI m c (Proc.devRef .tc main_v20_4)
    = broadcastInDim S32 ![] bcast_S_S32 (constant (F := Ideal) S_ .f32 0x00000000#32) := by
  simp only [entryContents, afterL_cons, afterL_nil]
  after_reads_simp
  rfl

/-- The loop starts at the covariances of the real triangles. -/
theorem entry_at (L : Fin 32 → Fin 64 → Fin 64 → ℝ)
    (hL : ∀ (kk : Fin 32) (r e : Fin 64), m ((c.tc : Thread nD τ).loc main_arg2) (ix3 kk r e) = ((L kk r e : ℝ) : EReal)) :
    At L 0 (entryContents Value.preI m c) := by
  refine ⟨entry_idx m c, fun kk r e => ?_, fun kk r e => ?_, fun kk => ?_⟩
  · exact (congrFun (entry_left m c) _).trans (covOf_at _ L (lowOf_at _ L hL) kk r e)
  · refine (congrFun (entry_right m c) _).trans ?_
    pointwise [eyeOf_at]
    rfl
  · refine (congrFun (entry_logs m c) _).trans ?_
    pointwise
    rfl

end Cert.ReferenceIdeal.Exec

end

end
-- ==== Proof.Reference.Value.lean ====
/- The reference's result over real arguments: the negative log-likelihood of the model. -/
module

public import proofs.«01_k».proof.Proof.Reference.Entry

@[expose] public section

set_option maxRecDepth 16384

noncomputable section

namespace Cert.ReferenceIdeal.Exec

open Cert.ReferenceIdeal Cert.ReferenceIdeal.Gen
open Idealize.ShloMosaic Idealize.ShloMosaic.TcCoe Idealize.ShloMosaic.StableHlo Idealize.SL.Sem
open Cert.Math

/-- Every point less every mean. -/
def diffOf (x : FVec Ideal S32768x64 .f32) (mu : FVec Ideal S32x64 .f32) : FVec Ideal S32768x32x64 .f32 :=
  subf (broadcastInDim S32768x32x64 ![0, 1, 2] bcast_S32768x1x64_S32768x32x64_0_1_2 (broadcastInDim S32768x1x64 ![0, 2] bcast_S32768x64_S32768x1x64_0_2 x))
    (broadcastInDim S32768x32x64 ![0, 1, 2] bcast_S1x32x64_S32768x32x64_0_1_2 (broadcastInDim S1x32x64 ![1, 2] bcast_S32x64_S1x32x64_1_2 mu))
/-- The quadratic forms of the differences. -/
def mahaOf (P : FVec Ideal S32x64x64 .f32) (z : FVec Ideal S32768x32x64 .f32) : FVec Ideal S32768x32 .f32 :=
  Host.dotGeneral dot_S32768x32x64_S32x64x32768_S32768x32_2_1_n_n_01_20 none z
    (Host.dotGeneral dot_S32x64x64_S32768x32x64_S32x64x32768_1_2_2_0_0_1 none P z)
/-- The scores less their maximum. -/
def shiftOf (w : FVec Ideal S32 .f32) : FVec Ideal S32 .f32 :=
  subf w (broadcastInDim S32 ![0] bcast_S1_S32_0 (broadcastInDim S1 ![] bcast_S_S1 (maximumf (constant S_ .f32 0xFF800000#32)
    (Host.reduce FloatOps.maximumf w (constant S_ .f32 0xFF800000#32) reducesTo_S32_S_d0 h_S_))))
/-- The logarithms of the mixture weights, of the shifted scores. -/
def logwOf (u : FVec Ideal S32 .f32) : FVec Ideal S32 .f32 :=
  subf u (broadcastInDim S32 ![0] bcast_S1_S32_0 (Host.log (broadcastInDim S1 ![] bcast_S_S1
    (Host.reduceAdd (Host.exp u) (constant S_ .f32 0x00000000#32) reducesTo_S32_S_d0 h_S_))))
/-- The weighted log-densities. -/
def logpOf (ld : FVec Ideal S32 .f32) (q : FVec Ideal S32768x32 .f32) (v : FVec Ideal S32 .f32) : FVec Ideal S32768x32 .f32 :=
  addf (mulf (broadcastInDim S32768x32 ![] bcast_S_S32768x32 (constant S_ .f32 0xBF000000#32))
      (addf (broadcastInDim S32768x32 ![0, 1] bcast_S1x32_S32768x32_0_1 (addf (broadcastInDim S1x32 ![] bcast_S_S1x32 (constant S_ .f32 0x42EB3F8E#32))
        (broadcastInDim S1x32 ![1] bcast_S32_S1x32_1 ld))) q))
    (broadcastInDim S32768x32 ![0, 1] bcast_S1x32_S32768x32_0_1 (broadcastInDim S1x32 ![1] bcast_S32_S1x32_1 v))
/-- The maximum over the components. -/
def maxRow (g : FVec Ideal S32768x32 .f32) : FVec Ideal S32768 .f32 :=
  Host.reduce FloatOps.maximumf g (constant S_ .f32 0xFF800000#32) reducesTo_S32768x32_S32768_d1 h_S_
/-- The sum over the components. -/
def sumRow (g : FVec Ideal S32768x32 .f32) : FVec Ideal S32768 .f32 :=
  Host.reduceAdd g (constant S_ .f32 0x00000000#32) reducesTo_S32768x32_S32768_d1 h_S_
/-- The exponentials of the values less each point's offset. -/
def expRow (g : FVec Ideal S32768x32 .f32) (t : FVec Ideal S32768 .f32) : FVec Ideal S32768x32 .f32 :=
  Host.exp (subf g (broadcastInDim S32768x32 ![0, 1] bcast_S32768x1_S32768x32_0_1 (broadcastInDim S32768x1 ![0] bcast_S32768_S32768x1_0 t)))
/-- Each point's offset plus a logarithm. -/
def addRow (t u : FVec Ideal S32768 .f32) : FVec Ideal S32768 .f32 :=
  addf (shapeCast _ (broadcastInDim S32768x1 ![0] bcast_S32768_S32768x1_0 t) shapeCasts_S32768x1_S32768) (Host.log u)
/-- The log-sum-exp over the components. -/
def rowsLse (g : FVec Ideal S32768x32 .f32) : FVec Ideal S32768 .f32 := addRow (maxRow g) (sumRow (expRow g (maxRow g)))
/-- The maximum over the points. -/
def maxAll (l : FVec Ideal S32768 .f32) : FVec Ideal S_ .f32 :=
  Host.reduce FloatOps.maximumf l (constant S_ .f32 0xFF800000#32) reducesTo_S32768_S_d0 h_S_
/-- The sum over the points. -/
def sumAll (l : FVec Ideal S32768 .f32) : FVec Ideal S_ .f32 :=
  Host.reduceAdd l (constant S_ .f32 0x00000000#32) reducesTo_S32768_S_d0 h_S_
/-- The exponentials of every point's value less an offset. -/
def expAll (l : FVec Ideal S32768 .f32) (t : FVec Ideal S_ .f32) : FVec Ideal S32768 .f32 :=
  Host.exp (subf l (broadcastInDim S32768 ![0] bcast_S1_S32768_0 (broadcastInDim S1 ![] bcast_S_S1 t)))
/-- An offset plus a logarithm, negated. -/
def negAll (t u : FVec Ideal S_ .f32) : FVec Ideal S_ .f32 :=
  Host.negf (addf (shapeCast _ (broadcastInDim S1 ![] bcast_S_S1 t) shapeCasts_S1_S_) (Host.log u))
/-- Minus the log-sum-exp over the points. -/
def allLse (l : FVec Ideal S32768 .f32) : FVec Ideal S_ .f32 := negAll (maxAll l) (sumAll (expAll l (maxAll l)))

/-- The result is the composition of the steps above, at the contents where the loop ends. -/
theorem out_eq (V : Valuation τ sig (Elt Ideal)) : Value.out_main_v57 V
    = allLse (rowsLse (logpOf (V (Proc.devRef .tc main_v20_4))
      (mahaOf (V (Proc.devRef .tc main_v20_3)) (diffOf (V (Proc.devRef .tc main_arg0)) (V (Proc.devRef .tc main_arg1))))
      (logwOf (shiftOf (V (Proc.devRef .tc main_arg3)))))) := rfl

/-- An entry of the differences, over real arguments. -/
theorem diffOf_at (x : FVec Ideal S32768x64 .f32) (mu : FVec Ideal S32x64 .f32) (X : Fin 32768 → Fin 64 → ℝ) (M : Fin 32 → Fin 64 → ℝ)
    (hx : ∀ n d, x (ix2 n d) = ((X n d : ℝ) : EReal)) (hm : ∀ k d, mu (ix2 k d) = ((M k d : ℝ) : EReal))
    (n : Fin 32768) (k : Fin 32) (d : Fin 64) : diffOf x mu (ix3 n k d) = ((X n d - M k d : ℝ) : EReal) := by
  pointwise [diffOf]
  rw [hx, hm, EReal.coe_sub]

/-- A quadratic form, over real arguments. -/
theorem mahaOf_at (P : FVec Ideal S32x64x64 .f32) (z : FVec Ideal S32768x32x64 .f32) (p : Fin 32 → Fin 64 → Fin 64 → ℝ)
    (y : Fin 32768 → Fin 32 → Fin 64 → ℝ)
    (hP : ∀ k r c, P (ix3 k r c) = ((p k r c : ℝ) : EReal)) (hz : ∀ n k d, z (ix3 n k d) = ((y n k d : ℝ) : EReal))
    (n : Fin 32768) (k : Fin 32) : mahaOf P z (ix2 n k) = ((quad (p k) (y n k) : ℝ) : EReal) := by
  pointwise [mahaOf]
  simp only [hP, hz, ← EReal.coe_mul, coe_sum]
  rfl

/-- The shifted scores are the scores less one real. -/
theorem shiftOf_at (x : FVec Ideal S32 .f32) (w : Fin 32 → ℝ) (hw : ∀ k, x (ix1 k) = ((w k : ℝ) : EReal)) :
    ∃ M : ℝ, ∀ k, shiftOf x (ix1 k) = ((w k - M : ℝ) : EReal) := by
  obtain ⟨M, hM⟩ := coe_fold_max w
  refine ⟨M, fun k => ?_⟩
  pointwise [shiftOf]
  simp only [hw, ofBits_neg_inf]
  rw [hM, max_eq_right bot_le, EReal.coe_sub]

/-- The logarithm of a mixture weight, of shifted real scores. -/
theorem logwOf_at (u : FVec Ideal S32 .f32) (w : Fin 32 → ℝ) (M : ℝ) (hu : ∀ k, u (ix1 k) = ((w k - M : ℝ) : EReal)) (k : Fin 32) :
    logwOf u (ix1 k) = ((logw w k : ℝ) : EReal) := by
  pointwise [logwOf]
  simp only [hu, Ideal.exp_coe, coe_sum]
  rw [log_coe_pos (sum_exp_pos fun j => w j - M), ← EReal.coe_sub, logw_shift']

/-- A weighted log-density, over real arguments. -/
theorem logpOf_at (ld : FVec Ideal S32 .f32) (q : FVec Ideal S32768x32 .f32) (v : FVec Ideal S32 .f32) (a b : Fin 32 → ℝ)
    (y : Fin 32768 → Fin 32 → ℝ) (ha : ∀ k, ld (ix1 k) = ((a k : ℝ) : EReal)) (hb : ∀ k, v (ix1 k) = ((b k : ℝ) : EReal))
    (hq : ∀ n k, q (ix2 n k) = ((y n k : ℝ) : EReal)) (n : Fin 32768) (k : Fin 32) :
    logpOf ld q v (ix2 n k) = ((-(1 / 2) * ((cst + a k) + y n k) + b k : ℝ) : EReal) := by
  pointwise [logpOf]
  rw [ha, hb, hq, ofBits_neg_half, ofBits_cst, ← EReal.coe_add, ← EReal.coe_add, ← EReal.coe_mul, ← EReal.coe_add]

/-- The maximum over the components, at a point. -/
theorem maxRow_at (g : FVec Ideal S32768x32 .f32) (n : Fin 32768) :
    maxRow g (ix1 n) = Finset.univ.fold max (Ideal.ofBits .f32 0xFF800000#32) fun k : Fin 32 => g (ix2 n k) := by
  pointwise [maxRow]

/-- The sum over the components, at a point. -/
theorem sumRow_at (g : FVec Ideal S32768x32 .f32) (n : Fin 32768) : sumRow g (ix1 n) = ∑ k : Fin 32, g (ix2 n k) := by
  pointwise [sumRow]

/-- A shifted exponential, at a point and a component. -/
theorem expRow_at (g : FVec Ideal S32768x32 .f32) (t : FVec Ideal S32768 .f32) (n : Fin 32768) (k : Fin 32) :
    expRow g t (ix2 n k) = Ideal.exp (g (ix2 n k) - t (ix1 n)) := by
  pointwise [expRow]

/-- A point's offset plus the logarithm of its sum. -/
theorem addRow_at (t u : FVec Ideal S32768 .f32) (n : Fin 32768) : addRow t u (ix1 n) = t (ix1 n) + Ideal.log (u (ix1 n)) := by
  pointwise [addRow]

/-- The log-sum-exp of real values over the components. -/
theorem rowsLse_at (g : FVec Ideal S32768x32 .f32) (s : Fin 32768 → Fin 32 → ℝ) (hg : ∀ n k, g (ix2 n k) = ((s n k : ℝ) : EReal))
    (n : Fin 32768) : rowsLse g (ix1 n) = ((Real.log (∑ k, Real.exp (s n k)) : ℝ) : EReal) := by
  obtain ⟨M, hM⟩ := coe_fold_max (s n)
  have hm : maxRow g (ix1 n) = (M : EReal) := by
    rw [maxRow_at, ofBits_neg_inf, ← hM]
    exact congrArg (fun f => Finset.univ.fold max (⊥ : EReal) f) (funext fun k => hg n k)
  have hs : sumRow (expRow g (maxRow g)) (ix1 n) = ((∑ k, Real.exp (s n k - M) : ℝ) : EReal) := by
    rw [sumRow_at, ← coe_sum]
    refine Finset.sum_congr rfl fun k _ => ?_
    rw [expRow_at, hg, hm, ← EReal.coe_sub, Ideal.exp_coe]
  unfold rowsLse
  rw [addRow_at, hm, hs, log_coe_pos (sum_exp_pos fun k => s n k - M), ← EReal.coe_add, lse_shift]

/-- The maximum over the points. -/
theorem maxAll_at (l : FVec Ideal S32768 .f32) (j : S_.Idx) :
    maxAll l j = Finset.univ.fold max (Ideal.ofBits .f32 0xFF800000#32) fun n : Fin 32768 => l (ix1 n) := by
  pointwise [maxAll]

/-- The sum over the points. -/
theorem sumAll_at (l : FVec Ideal S32768 .f32) (j : S_.Idx) : sumAll l j = ∑ n : Fin 32768, l (ix1 n) := by
  pointwise [sumAll]

/-- A shifted exponential, at a point. -/
theorem expAll_at (l : FVec Ideal S32768 .f32) (t : FVec Ideal S_ .f32) (n : Fin 32768) :
    expAll l t (ix1 n) = Ideal.exp (l (ix1 n) - t ix0) := by
  pointwise [expAll]

/-- The offset plus the logarithm, negated. -/
theorem negAll_at (t u : FVec Ideal S_ .f32) (j : S_.Idx) : negAll t u j = -(t ix0 + Ideal.log (u ix0)) := by
  obtain rfl : j = ix0 := funext fun a => a.elim0
  pointwise [negAll]

/-- The maximum of real values is a real. -/
theorem maxAll_real (l : FVec Ideal S32768 .f32) (y : Fin 32768 → ℝ) (hl : ∀ n, l (ix1 n) = ((y n : ℝ) : EReal)) :
    ∃ M : ℝ, maxAll l ix0 = (M : EReal) := by
  obtain ⟨M, hM⟩ := coe_fold_max y
  refine ⟨M, (maxAll_at l ix0).trans ?_⟩
  rw [ofBits_neg_inf, ← hM]
  exact congrArg (fun f => Finset.univ.fold max (⊥ : EReal) f) (funext hl)

/-- The sum of the shifted exponentials of real values. -/
theorem sumAll_real (l : FVec Ideal S32768 .f32) (y : Fin 32768 → ℝ) (hl : ∀ n, l (ix1 n) = ((y n : ℝ) : EReal))
    (t : FVec Ideal S_ .f32) (M : ℝ) (ht : t ix0 = (M : EReal)) :
    sumAll (expAll l t) ix0 = ((∑ n, Real.exp (y n - M) : ℝ) : EReal) := by
  rw [sumAll_at, ← coe_sum]
  refine Finset.sum_congr rfl fun n _ => ?_
  rw [expAll_at, hl, ht, ← EReal.coe_sub, Ideal.exp_coe]

/-- Minus the log-sum-exp of real values. -/
theorem allLse_at (l : FVec Ideal S32768 .f32) (y : Fin 32768 → ℝ) (hl : ∀ n, l (ix1 n) = ((y n : ℝ) : EReal)) (j : S_.Idx) :
    allLse l j = ((-Real.log (∑ n, Real.exp (y n)) : ℝ) : EReal) := by
  obtain ⟨M, hM⟩ := maxAll_real l y hl
  unfold allLse
  rw [negAll_at, hM, sumAll_real l y hl _ M hM, log_coe_pos (sum_exp_pos fun n => y n - M), ← EReal.coe_add, lse_shift,
    ← EReal.coe_neg]

variable (m : (ℓ : Loc nD τ sig) → Buf (Elt Ideal) ℓ) (c : Dev nD)

/-- The reference's result over real arguments. -/
theorem result_real (X : Fin 32768 → Fin 64 → ℝ) (mu : Fin 32 → Fin 64 → ℝ) (L : Fin 32 → Fin 64 → Fin 64 → ℝ) (w : Fin 32 → ℝ)
    (hX : ∀ (n : Fin 32768) (d : Fin 64), m ((c.tc : Thread nD τ).loc main_arg0) (ix2 n d) = ((X n d : ℝ) : EReal))
    (hmu : ∀ (k : Fin 32) (d : Fin 64), m ((c.tc : Thread nD τ).loc main_arg1) (ix2 k d) = ((mu k d : ℝ) : EReal))
    (hL : ∀ (k : Fin 32) (r e : Fin 64), m ((c.tc : Thread nD τ).loc main_arg2) (ix3 k r e) = ((L k r e : ℝ) : EReal))
    (hw : ∀ k : Fin 32, m ((c.tc : Thread nD τ).loc main_arg3) (ix1 k) = ((w k : ℝ) : EReal)) :
    Value.out_main_v57 (Value.STEP^[64] (entryContents Value.preI m c)) = fun _ => ((nll cst w L mu X : ℝ) : EReal) := by
  have h := (entry_at m c L hL).iter 64 le_rfl
  have h0 := Value.iter_main_arg0 m c 64
  have h1 := Value.iter_main_arg1 m c 64
  have h3 := Value.iter_main_arg3 m c 64
  obtain ⟨M, hM⟩ := shiftOf_at (m ((c.tc : Thread nD τ).loc main_arg3)) w hw
  have hd := diffOf_at (m ((c.tc : Thread nD τ).loc main_arg0)) (m ((c.tc : Thread nD τ).loc main_arg1)) X mu hX hmu
  rw [out_eq, h0, h1, h3]
  refine funext fun j => ?_
  have hl := allLse_at _ _ (rowsLse_at _ _ (logpOf_at _ _ _ _ _ _ h.logs (logwOf_at _ w M hM) (mahaOf_at _ _ _ _ h.right hd))) j
  refine hl.trans (congrArg (fun r : ℝ => (r : EReal)) ?_)
  exact congrArg (fun r => -Real.log r) (Finset.sum_congr rfl fun n _ => Real.exp_log (sum_exp_pos _))

end Cert.ReferenceIdeal.Exec

end

end
-- ==== Proof.Finite.lean ====
/- The precondition: every entry of the four float arguments is a real number. -/
module

public import proofs.«01_k».proof.Pre_finite
public import proofs.«01_k».proof.Proof.Math.Coe
public import Idealize.ShloMosaic.Lib.Pointwise
public import Idealize.ShloMosaic.Lib.ReduceAll

@[expose] public section

set_option maxRecDepth 16384

noncomputable section

namespace Cert.Pre_finite

open Idealize.ShloMosaic
open Cert.Math

/-- The shape relations the precondition takes. -/
theorem facts : Facts where
  bcast_S_S32768x64 := by decide
  reducesTo_S32768x64_S_d0_1 := by decide
  h_S_ := by decide
  bcast_S_S32x64 := by decide
  reducesTo_S32x64_S_d0_1 := by decide
  bcast_S_S32x64x64 := by decide
  reducesTo_S32x64x64_S_d0_1_2 := by decide
  bcast_S_S32 := by decide
  reducesTo_S32_S_d0 := by decide

/-- An extended real whose absolute value is below `+∞` is a real. -/
theorem real_of_abs_lt {x : EReal} (h : BitVec.ofBool (decide (max x (-x) < (⊤ : EReal))) = 1#1) : ∃ r : ℝ, x = (r : EReal) := by
  have h1 : max x (-x) < ⊤ := by
    by_contra hn
    revert h
    rw [decide_eq_false hn]
    decide
  induction x with
  | bot => simp at h1
  | top => simp at h1
  | coe r => exact ⟨r, rfl⟩

variable [Facts]

/-- An array all of whose entries test below `+∞` in absolute value holds reals. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) := by
  haveI : Subsingleton S_.Idx := ⟨fun a b => funext fun d => d.elim0⟩
  have h1 := Host.reduce_andi_all _ _ hr hu j h i
  refine real_of_abs_lt ?_
  rw [← ofBits_pos_inf]
  exact h1

/-- Two bits whose conjunction is one are both one. -/
theorem both_one {a b : BitVec 1} (h : IntOp.andi a b = 1#1) : a = 1#1 ∧ b = 1#1 := by
  revert a b
  decide

/-- Under the precondition every entry of the four float arguments is a real. -/
theorem real_args (x0 : FVec Ideal S32768x64 .f32) (x1 : FVec Ideal S32x64 .f32) (x2 : FVec Ideal S32x64x64 .f32) (x3 : FVec Ideal S32 .f32)
    (x4 : IVec S_ 32) (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  have h := congrFun h ix0
  unfold fn fn_part1 at h
  obtain ⟨h012, h3⟩ := both_one h
  obtain ⟨h01, h2⟩ := both_one h012
  obtain ⟨h0, h1⟩ := both_one h01
  exact ⟨real_of_all x0 _ _ _ _ h0, real_of_all x1 _ _ _ _ h1, real_of_all x2 _ _ _ _ h2, real_of_all x3 _ _ _ _ h3⟩

end Cert.Pre_finite

end

end
-- ==== Proof.Math.Inverse.lean ====
/- What the elimination's two answers are: the precision matrix is the inverse of the covariance, and the added logarithms
   of the pivots are the logarithm of its determinant. -/
module

public import proofs.«01_k».proof.Proof.Math.Model

@[expose] public section

noncomputable section

namespace Cert.Math

/-- The precision matrix is a left inverse of the covariance. -/
theorem prec_mul_cov (L : Fin 64 → Fin 64 → ℝ) : (Matrix.of (prec L)) * (Matrix.of (cov L)) = 1 := by
  have hI := inv_gjs (cov_pd L) 64 le_rfl
  ext r c
  rw [Matrix.mul_apply, Matrix.one_apply, ← hI.left r c c.isLt]
  exact (hI.prod r c).symm

/-- The precision matrix is the inverse of the covariance. -/
theorem prec_eq_inv (L : Fin 64 → Fin 64 → ℝ) : (Matrix.of (cov L))⁻¹ = Matrix.of (prec L) :=
  Matrix.inv_eq_left_inv (prec_mul_cov L)

/-- An elimination step divides the determinant by its pivot. -/
theorem det_gj {n : ℕ} (A : Fin n → Fin n → ℝ) (i : Fin n) (h : A i i ≠ 0) :
    (Matrix.of A).det = A i i * (Matrix.of (gj i A A)).det := by
  have h1 : (Matrix.of (gj i A A)).det = ((Matrix.of A).updateRow i ((A i i)⁻¹ • (Matrix.of A) i)).det := by
    refine Matrix.det_eq_of_forall_row_eq_smul_add_const (fun r => if r = i then 0 else -A r i) i (if_pos rfl) fun r c => ?_
    rw [Matrix.updateRow_self]
    simp only [Matrix.of_apply, gj, Matrix.updateRow_apply, Pi.smul_apply, smul_eq_mul]
    by_cases hr : r = i
    · simp only [hr, if_true]; ring
    · simp only [hr, if_false]; ring
  rw [h1, Matrix.det_updateRow_smul, Matrix.updateRow_eq_self, ← mul_assoc, mul_inv_cancel₀ h, one_mul]

/-- After any number of steps the determinant is what is left of it times the pivots so far. -/
theorem det_gjs {S : Fin 64 → Fin 64 → ℝ} (hS : PD S) : ∀ k, k ≤ 64 →
    (Matrix.of S).det = Real.exp (logdet S k) * (Matrix.of (gjs S k).1).det
  | 0, _ => by rw [logdet, Real.exp_zero, one_mul, gjs]
  | k + 1, hk => by
    have hk' : k < 64 := hk
    have hp := gjs_pivot hS ⟨k, hk'⟩
    rw [det_gjs hS k hk'.le, det_gj _ ⟨k, hk'⟩ hp.ne', logdet, dif_pos hk', Real.exp_add, Real.exp_log hp, mul_assoc]
    simp only [gjs, dif_pos hk']

/-- The added logarithms of the pivots are the logarithm of the covariance's determinant. -/
theorem logdet_eq_log_det (L : Fin 64 → Fin 64 → ℝ) : logdet (cov L) 64 = Real.log (Matrix.of (cov L)).det := by
  have hI := inv_gjs (cov_pd L) 64 le_rfl
  have h1 : Matrix.of (gjs (cov L) 64).1 = 1 := by
    ext r c
    rw [Matrix.one_apply]
    exact hI.left r c c.isLt
  rw [det_gjs (cov_pd L) 64 le_rfl, h1, Matrix.det_one, mul_one, Real.log_exp]

/-- The weighted log-density of a component, in the inverse and the determinant of its covariance. -/
theorem logp_eq (C : ℝ) (w : Fin 32 → ℝ) (L : Fin 32 → Fin 64 → Fin 64 → ℝ) (mu : Fin 32 → Fin 64 → ℝ) (x : Fin 64 → ℝ)
    (k : Fin 32) : logp C w L mu x k = -(1 / 2) * ((C + Real.log (Matrix.of (cov (L k))).det)
      + quad (fun r c => (Matrix.of (cov (L k)))⁻¹ r c) (fun d => x d - mu k d)) + logw w k := by
  simp only [prec_eq_inv]
  rw [← logdet_eq_log_det]
  rfl

end Cert.Math

end

end
-- ==== Proof.lean ====
/- The claims about the kernel and the reference, assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Frame
public import proofs.«01_k».proof.Proof.KernelIdeal.Value
public import proofs.«01_k».proof.Proof.Reference.Frame
public import proofs.«01_k».proof.Proof.Reference.Value
public import proofs.«01_k».proof.Proof.Finite
public import proofs.«01_k».proof.Proof.Math.Inverse

@[expose] public section

set_option maxRecDepth 16384

noncomputable section

namespace Cert.Proof

open Idealize.ShloMosaic Idealize.ShloMosaic.TcCoe Idealize.SL.Sem

/-- At exact arithmetic and over finite arguments the kernel and the reference end with the same result, the negative
    log-likelihood of the real arguments. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  haveI := Cert.Pre_finite.facts
  have hreal := fun c => Cert.Pre_finite.real_args _ _ _ _ _ (hpre c)
  choose r0 hr0 using fun c => (hreal c).1
  choose r1 hr1 using fun c => (hreal c).2.1
  choose r2 hr2 using fun c => (hreal c).2.2.1
  choose r3 hr3 using fun c => (hreal c).2.2.2
  refine ⟨fun c => Cert.KernelIdeal.Exec.W4 m g c (Proc.devRef .tc Cert.KernelIdeal.main_v15),
    Cert.KernelIdeal.Exec.run_result m g, (θ_run Cert.ReferenceIdeal.defs _ _).mono (fun _ h c => ⟨(h c).1.trans ?_, (h c).2⟩)
      (Cert.ReferenceIdeal.Value.run m' g')⟩
  obtain ⟨e0, e1, e2, e3, -⟩ := hag c
  refine (Cert.ReferenceIdeal.Exec.result_real m' c (fun n d => r0 c (ix2 n d)) (fun k d => r1 c (ix2 k d))
    (fun k r e => r2 c (ix3 k r e)) (fun k => r3 c (ix1 k)) (fun n d => (congrFun e0 _).trans (hr0 c _))
    (fun k d => (congrFun e1 _).trans (hr1 c _)) (fun k r e => (congrFun e2 _).trans (hr2 c _))
    (fun k => (congrFun e3 _).trans (hr3 c _))).trans ?_
  exact (Cert.KernelIdeal.Exec.result_real m g c (fun n d => r0 c (ix2 n d)) (fun k d => r1 c (ix2 k d))
    (fun k r e => r2 c (ix3 k r e)) (fun k => r3 c (ix1 k)) (fun n d => hr0 c _) (fun k d => hr1 c _) (fun k r e => hr2 c _)
    (fun k => hr3 c _)).symm

/-- All the claims: the three frames, the idealized kernel being the kernel's own text, and the equal results. -/
theorem claim : Cert.Claim := ⟨Cert.Kernel.Gen.facts, Cert.KernelIdeal.Gen.facts, Cert.ReferenceIdeal.Gen.facts, Cert.Pre_finite.facts,
  fun m ρ _ => Cert.Kernel.Exec.frame m ρ, fun m ρ _ => Cert.KernelIdeal.Exec.frame m ρ, fun m ρ _ => Cert.KernelIdeal.Exec.frame m ρ,
  fun m ρ _ => Cert.ReferenceIdeal.Exec.frame m ρ, fun m ρ _ => Cert.ReferenceIdeal.Exec.frame m ρ, trivial, same_result⟩

end Cert.Proof

end
